-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x128 : Shape := ⟨3, ![2, 8192, 128]⟩
abbrev S2x8192 : Shape := ⟨2, ![2, 8192]⟩
abbrev S8192x32 : Shape := ⟨2, ![8192, 32]⟩
abbrev S8192x1024 : Shape := ⟨2, ![8192, 1024]⟩
abbrev S512x32 : Shape := ⟨2, ![512, 32]⟩
abbrev S512x1024 : Shape := ⟨2, ![512, 1024]⟩
abbrev S512x128 : Shape := ⟨2, ![512, 128]⟩
abbrev S512x1 : Shape := ⟨2, ![512, 1]⟩
abbrev S2x256 : Shape := ⟨2, ![2, 256]⟩
abbrev S256x1024 : Shape := ⟨2, ![256, 1024]⟩
abbrev S1x256x128 : Shape := ⟨3, ![1, 256, 128]⟩
abbrev S256x128 : Shape := ⟨2, ![256, 128]⟩
abbrev S1x256 : Shape := ⟨2, ![1, 256]⟩
abbrev S128x256 : Shape := ⟨2, ![128, 256]⟩
abbrev S256x1 : Shape := ⟨2, ![256, 1]⟩
abbrev S256x256 : Shape := ⟨2, ![256, 256]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S2x8192x128, .fp8e4m3⟩
  | .hbm, ⟨1, _⟩ => ⟨S2x8192, .f32⟩
  | .hbm, ⟨2, _⟩ => ⟨S8192x32, .i32⟩
  | .hbm, ⟨3, _⟩ => ⟨S8192x1024, .bf16⟩
  | .hbm, ⟨4, _⟩ => ⟨S2x8192, .f32⟩
  | .hbm, ⟨5, _⟩ => ⟨S2x8192, .f32⟩
  | .hbm, ⟨6, _⟩ => ⟨S2x8192, .i32⟩
  | .local _ .vmem, ⟨0, _⟩ => ⟨S512x32, .i32⟩
  | .local _ .vmem, ⟨1, _⟩ => ⟨S512x32, .i32⟩
  | .local _ .vmem, ⟨2, _⟩ => ⟨S512x1024, .bf16⟩
  | .local _ .vmem, ⟨3, _⟩ => ⟨S512x1024, .bf16⟩
  | .local _ .vmem, ⟨4, _⟩ => ⟨S2x8192x128, .fp8e4m3⟩
  | .local _ .vmem, ⟨5, _⟩ => ⟨S2x8192, .f32⟩
  | .local _ .vmem, ⟨6, _⟩ => ⟨S8192x1024, .bf16⟩
  | .local _ .vmem, ⟨7, _⟩ => ⟨S2x256, .f32⟩
  | .local _ .vmem, ⟨8, _⟩ => ⟨S2x256, .f32⟩
  | .local _ .vmem, ⟨9, _⟩ => ⟨S2x256, .f32⟩
  | .local _ .vmem, ⟨10, _⟩ => ⟨S2x256, .f32⟩
  | .local _ .vmem, ⟨11, _⟩ => ⟨S2x256, .i32⟩
  | .local _ .vmem, ⟨12, _⟩ => ⟨S2x256, .i32⟩
  | _, _ => ⟨S2x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def k1_off2 (i : grid1.Coords) : Fin 3 → Nat :=
  let c0_0 : Index := 0#32
  let arg0 : BitVec 32 := BitVec.ofNat 32 (i 0).val
  let c256_i32 : BitVec 32 := 256#32
  let v0 : BitVec 32 := Scalar.muli arg0 c256_i32
  let v4 : Index := Scalar.indexCast v0
  let c0_1 : Index := 0#32
  ![0, v4.toNat, 0]
def k1_off3 (i : grid1.Coords) : Fin 3 → Nat :=
  let c1 : Index := 1#32
  let arg0 : BitVec 32 := BitVec.ofNat 32 (i 0).val
  let c256_i32 : BitVec 32 := 256#32
  let v0 : BitVec 32 := Scalar.muli arg0 c256_i32
  let v7 : Index := Scalar.indexCast v0
  let c0_2 : Index := 0#32
  ![1, v7.toNat, 0]
def k1_off4 (i : grid1.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v10 : Index := Scalar.indexCast v0
  ![0, v10.toNat]
def k1_off5 (i : grid1.Coords) : Fin 2 → Nat :=
  let c1_4 : Index := 1#32
  let arg0 : BitVec 32 := BitVec.ofNat 32 (i 0).val
  let c256_i32 : BitVec 32 := 256#32
  let v0 : BitVec 32 := Scalar.muli arg0 c256_i32
  let v16 : Index := Scalar.indexCast v0
  ![1, v16.toNat]
@[reducible] def k1_t1_loop : Scf.Loop 32 :=
  let c0_i32 : BitVec 32 := 0#32
  let c32_i32 : BitVec 32 := 32#32
  let v27 : BitVec 32 := Scalar.addi c0_i32 c32_i32
  let c1_i32 : BitVec 32 := 1#32
  ⟨c0_i32, v27, c1_i32⟩
def k1_off6 (k1_t1 : Fin k1_t1_loop.trips) : Fin 2 → Nat :=
  let c0_i32 : BitVec 32 := 0#32
  let c1_i32 : BitVec 32 := 1#32
  let arg7 : BitVec 32 := Scf.iv c0_i32 c1_i32 k1_t1
  let c256_i32_27 : BitVec 32 := 256#32
  let v85 : BitVec 32 := Scalar.muli arg7 c256_i32_27
  let v86 : Index := Scalar.indexCast v85
  let c0_28 : Index := 0#32
  ![v86.toNat, 0]
def k1_off7 (k1_t1 : Fin k1_t1_loop.trips) : Fin 3 → Nat :=
  let c0_31 : Index := 0#32
  let c0_i32 : BitVec 32 := 0#32
  let c1_i32 : BitVec 32 := 1#32
  let arg7 : BitVec 32 := Scf.iv c0_i32 c1_i32 k1_t1
  let c256_i32_27 : BitVec 32 := 256#32
  let v85 : BitVec 32 := Scalar.muli arg7 c256_i32_27
  let v95 : Index := Scalar.indexCast v85
  let c0_32 : Index := 0#32
  ![0, v95.toNat, 0]
def k1_off8 (k1_t1 : Fin k1_t1_loop.trips) : Fin 2 → Nat :=
  let c0_34 : Index := 0#32
  let c0_i32 : BitVec 32 := 0#32
  let c1_i32 : BitVec 32 := 1#32
  let arg7 : BitVec 32 := Scf.iv c0_i32 c1_i32 k1_t1
  let c256_i32_27 : BitVec 32 := 256#32
  let v85 : BitVec 32 := Scalar.muli arg7 c256_i32_27
  let v99 : Index := Scalar.indexCast v85
  ![0, v99.toNat]
def k1_off9 (k1_t1 : Fin k1_t1_loop.trips) : Fin 3 → Nat :=
  let c1_45 : Index := 1#32
  let c0_i32 : BitVec 32 := 0#32
  let c1_i32 : BitVec 32 := 1#32
  let arg7 : BitVec 32 := Scf.iv c0_i32 c1_i32 k1_t1
  let c256_i32_27 : BitVec 32 := 256#32
  let v85 : BitVec 32 := Scalar.muli arg7 c256_i32_27
  let v134 : Index := Scalar.indexCast v85
  let c0_46 : Index := 0#32
  ![1, v134.toNat, 0]
def k1_off10 (k1_t1 : Fin k1_t1_loop.trips) : Fin 2 → Nat :=
  let c1_48 : Index := 1#32
  let c0_i32 : BitVec 32 := 0#32
  let c1_i32 : BitVec 32 := 1#32
  let arg7 : BitVec 32 := Scf.iv c0_i32 c1_i32 k1_t1
  let c256_i32_27 : BitVec 32 := 256#32
  let v85 : BitVec 32 := Scalar.muli arg7 c256_i32_27
  let v138 : Index := Scalar.indexCast v85
  ![1, v138.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2x8192x128 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x256 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x8192x128 : Shape := ⟨3, ![2, 8192, 128]⟩
abbrev S2x8192 : Shape := ⟨2, ![2, 8192]⟩
abbrev S8192x32 : Shape := ⟨2, ![8192, 32]⟩
abbrev S16384x128 : Shape := ⟨2, ![16384, 128]⟩
abbrev S16384 : Shape := ⟨1, ![16384]⟩
abbrev S16384x32 : Shape := ⟨2, ![16384, 32]⟩
abbrev S1x16384 : Shape := ⟨2, ![1, 16384]⟩
abbrev S16384x16384 : Shape := ⟨2, ![16384, 16384]⟩
abbrev S16384x1 : Shape := ⟨2, ![16384, 1]⟩
abbrev S16384x1x32 : Shape := ⟨3, ![16384, 1, 32]⟩
abbrev S1x16384x32 : Shape := ⟨3, ![1, 16384, 32]⟩
abbrev S16384x16384x32 : Shape := ⟨3, ![16384, 16384, 32]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x128, .fp8e4m3⟩
  | .hbm, ⟨1, _⟩ => ⟨S2x8192, .f32⟩
  | .hbm, ⟨2, _⟩ => ⟨S8192x32, .i32⟩
  | .hbm, ⟨3, _⟩ => ⟨S2x8192, .f32⟩
  | .hbm, ⟨4, _⟩ => ⟨S2x8192, .f32⟩
  | .hbm, ⟨5, _⟩ => ⟨S2x8192, .i32⟩
  | .local _ .vmem, ⟨0, _⟩ => ⟨S2x8192x128, .fp8e4m3⟩
  | .local _ .vmem, ⟨1, _⟩ => ⟨S2x8192, .f32⟩
  | .local _ .vmem, ⟨2, _⟩ => ⟨S8192x32, .i32⟩
  | .local _ .vmem, ⟨3, _⟩ => ⟨S2x8192, .f32⟩
  | .local _ .vmem, ⟨4, _⟩ => ⟨S2x8192, .f32⟩
  | .local _ .vmem, ⟨5, _⟩ => ⟨S2x8192, .i32⟩
  | _, _ => ⟨S2x8192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x8192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Math.lean ====
/-
  The mathematics of the log-sum-exp row, the row counts and the small facts about words and constants
  that the two programs' values are compared by. Nothing here is about a program.
-/
module

public import Idealize.ShloMosaic.Lib.Pointwise
public import Idealize.ShloMosaic.Lib.IdealHost

@[expose] public section

noncomputable section

namespace Cert.Supcon

open Idealize.ShloMosaic

/-! ## The exponential and the logarithm of extended reals -/

/-- The exponential of an extended real as a real number: 0 at `⊥` (and, of no use here, at `⊤`). -/
def er (x : EReal) : ℝ := (Ideal.exp x).toReal

/-- The exponential of a real. -/
theorem exp_coe (a : ℝ) : Ideal.exp (a : EReal) = (Real.exp a : EReal) := rfl
/-- The exponential of minus infinity is 0. -/
theorem exp_bot : Ideal.exp ⊥ = 0 := rfl
/-- The exponential of plus infinity is plus infinity. -/
theorem exp_top : Ideal.exp ⊤ = ⊤ := rfl
/-- The logarithm of a real: minus infinity at 0 and below. -/
theorem log_coe (a : ℝ) : Ideal.log (a : EReal) = if a ≤ 0 then ⊥ else (Real.log a : EReal) := rfl
/-- The logarithm of 0 is minus infinity. -/
theorem log_zero : Ideal.log 0 = ⊥ := by
  rw [← EReal.coe_zero, log_coe, if_pos le_rfl]
/-- The real exponential of minus infinity is 0. -/
theorem er_bot : er ⊥ = 0 := by simp [er, exp_bot]
/-- The real exponential of a real. -/
theorem er_coe (a : ℝ) : er (a : EReal) = Real.exp a := by simp [er, exp_coe]

/-- The real exponential is never negative. -/
theorem er_nonneg (x : EReal) : 0 ≤ er x := by
  induction x with
  | bot => rw [er_bot]
  | top => simp [er, exp_top]
  | coe a => rw [er_coe]; exact (Real.exp_pos a).le

/-- Below `⊤`, the exponential of a difference with a real splits. -/
theorem exp_sub_coe {x : EReal} (hx : x ≠ ⊤) (m : ℝ) :
    Ideal.exp (x - (m : EReal)) = ((Real.exp (-m) * er x : ℝ) : EReal) := by
  induction x with
  | bot => rw [EReal.bot_sub, exp_bot, er_bot, mul_zero, EReal.coe_zero]
  | top => exact absurd rfl hx
  | coe a => rw [← EReal.coe_sub, exp_coe, er_coe, ← Real.exp_add]; congr 2; ring

/-- Anything less `⊤` is `⊥`, whose exponential is 0. -/
theorem exp_sub_top (x : EReal) : Ideal.exp (x - ⊤) = 0 := by
  rw [EReal.sub_top, exp_bot]

/-- A finite sum of reals, read as extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logarithm of a sum scaled by `e^(-m)`, plus `m`, is the logarithm of the sum. -/
theorem log_scale_add (m : ℝ) {s : ℝ} (hs : 0 ≤ s) :
    Ideal.log ((Real.exp (-m) * s : ℝ) : EReal) + (m : EReal) = Ideal.log (s : EReal) := by
  rcases hs.eq_or_lt with h | h
  · subst h; rw [mul_zero, EReal.coe_zero, log_zero, EReal.bot_add]
  · rw [log_coe, log_coe, if_neg (not_le.mpr (mul_pos (Real.exp_pos _) h)), if_neg (not_le.mpr h), ← EReal.coe_add,
      Real.log_mul (Real.exp_pos _).ne' h.ne', Real.log_exp]
    congr 1; ring

/-! ## The log-sum-exp of a family -/

open Classical in
/-- The log-sum-exp of a finite family as the two programs compute it: the logarithm of the sum of the
    exponentials, and `⊥` when a member is `⊤` (both then subtract `⊤` from `⊤`). -/
def lse {ι : Type*} [Fintype ι] (x : ι → EReal) : EReal :=
  if ∃ i, x i = ⊤ then ⊥ else Ideal.log ((∑ i, er (x i) : ℝ) : EReal)

/-- Renaming the members of a family leaves its log-sum-exp. -/
theorem lse_equiv {ι κ : Type*} [Fintype ι] [Fintype κ] (e : ι ≃ κ) (x : κ → EReal) : lse (fun i => x (e i)) = lse x := by
  unfold lse
  have h : (∃ i, x (e i) = ⊤) ↔ ∃ j, x j = ⊤ := e.exists_congr_left.trans (by simp)
  rw [e.sum_comp (fun j => er (x j))]
  simp only [h]

/-- A maximum over the whole family, folded from `⊥`, is its supremum. -/
theorem fold_max_eq_sup {ι : Type*} (s : Finset ι) (x : ι → EReal) : Finset.fold max ⊥ x s = s.sup x := rfl

/-- THE TEXTBOOK FORM: with `top` the greatest member, `log (∑ e^(x - top)) + top` is the log-sum-exp. -/
theorem log_sum_exp {ι : Type*} [Fintype ι] (x : ι → EReal) :
    Ideal.log (∑ i, Ideal.exp (x i - Finset.fold max ⊥ x Finset.univ)) + Finset.fold max ⊥ x Finset.univ = lse x := by
  rw [fold_max_eq_sup]
  unfold lse
  generalize hM : Finset.univ.sup x = M
  by_cases h : ∃ i, x i = ⊤
  · obtain ⟨i, hi⟩ := h
    have hT : M = ⊤ := by
      rw [← hM, ← top_le_iff, ← hi]; exact Finset.le_sup (Finset.mem_univ i)
    subst hT
    rw [if_pos ⟨i, hi⟩]
    simp only [exp_sub_top, Finset.sum_const_zero, log_zero, EReal.bot_add]
  · rw [if_neg h]
    have hx : ∀ i, x i ≠ ⊤ := fun i hi => h ⟨i, hi⟩
    have hlt : M < ⊤ := by
      rw [← hM, Finset.sup_lt_iff bot_lt_top]
      exact fun i _ => lt_top_iff_ne_top.mpr (hx i)
    induction M with
    | bot =>
      have hb : ∀ i, x i = ⊥ := fun i => by
        rw [← le_bot_iff, ← hM]; exact Finset.le_sup (Finset.mem_univ i)
      simp only [hb, er_bot, EReal.bot_sub, exp_bot, Finset.sum_const_zero, log_zero, EReal.coe_zero, EReal.bot_add]
    | top => exact absurd rfl hlt.ne
    | coe m =>
      simp only [exp_sub_coe (hx _)]
      rw [coe_sum, ← Finset.mul_sum, log_scale_add m (Finset.sum_nonneg fun i _ => er_nonneg _)]

/-! ## The running form -/

/-- What the running maximum `m` and the running sum `s` hold once entries with the exponentials' sum `S` were
    seen, `P` saying that one of them was `⊤`: either none was, and `m` is a real with `s = e^(-m) S`; or one was,
    and `m = ⊤`, `s = 0`. -/
def Running (P : Prop) (S : ℝ) (m s : EReal) : Prop :=
  0 ≤ S ∧ ((¬P ∧ ∃ r : ℝ, m = (r : EReal) ∧ s = ((Real.exp (-r) * S : ℝ) : EReal)) ∨ (P ∧ m = ⊤ ∧ s = 0))

/-- Before any entry: a real maximum and the sum 0. -/
theorem Running.init (r : ℝ) : Running False 0 (r : EReal) 0 :=
  ⟨le_rfl, .inl ⟨id, r, rfl, by simp⟩⟩

/-- One block of entries: the maximum rises to the block's, the sum is rescaled and the block's exponentials added. -/
theorem Running.step {κ : Type*} [Fintype κ] {P : Prop} {S : ℝ} {m s : EReal} (h : Running P S m s) (b : κ → EReal) :
    Running (P ∨ ∃ c, b c = ⊤) (S + ∑ c, er (b c)) (max m (Finset.fold max ⊥ b Finset.univ))
      (s * Ideal.exp (m - max m (Finset.fold max ⊥ b Finset.univ))
        + ∑ c, Ideal.exp (b c - max m (Finset.fold max ⊥ b Finset.univ))) := by
  rw [fold_max_eq_sup]
  obtain ⟨hS, h⟩ := h
  refine ⟨add_nonneg hS (Finset.sum_nonneg fun _ _ => er_nonneg _), ?_⟩
  rcases h with ⟨hP, r, rfl, rfl⟩ | ⟨hP, rfl, rfl⟩
  · by_cases hb : ∃ c, b c = ⊤
    · obtain ⟨c, hc⟩ := hb
      have hT : Finset.univ.sup b = ⊤ := by
        rw [← top_le_iff, ← hc]; exact Finset.le_sup (Finset.mem_univ c)
      refine .inr ⟨.inr ⟨c, hc⟩, ?_, ?_⟩
      · rw [hT]; exact max_eq_right le_top
      · rw [hT, max_eq_right le_top]
        simp only [exp_sub_top, mul_zero, Finset.sum_const_zero, add_zero]
    · have hx : ∀ c, b c ≠ ⊤ := fun c hc => hb ⟨c, hc⟩
      have hlt : Finset.univ.sup b < ⊤ := by
        rw [Finset.sup_lt_iff bot_lt_top]
        exact fun i _ => lt_top_iff_ne_top.mpr (hx i)
      obtain ⟨r', hr'⟩ : ∃ r' : ℝ, max (r : EReal) (Finset.univ.sup b) = (r' : EReal) := by
        generalize Finset.univ.sup b = M at hlt
        induction M with
        | bot => exact ⟨r, max_eq_left bot_le⟩
        | top => exact absurd rfl hlt.ne
        | coe a => exact ⟨max r a, (EReal.coe_strictMono.monotone.map_max).symm⟩
      refine .inl ⟨fun h => h.elim hP hb, r', hr', ?_⟩
      rw [hr', exp_sub_coe (EReal.coe_ne_top r), er_coe]
      simp only [exp_sub_coe (hx _)]
      rw [coe_sum, ← Finset.mul_sum, ← EReal.coe_mul, ← EReal.coe_add]
      congr 1
      have : Real.exp (-r) * Real.exp r = 1 := by rw [← Real.exp_add]; simp
      linear_combination (S * Real.exp (-r')) * this
  · refine .inr ⟨.inl hP, max_eq_left le_top, ?_⟩
    rw [max_eq_left le_top]
    simp only [exp_sub_top, mul_zero, Finset.sum_const_zero, add_zero]

/-- The running form's end: the maximum plus the logarithm of the sum is the log-sum-exp of what was seen. -/
theorem Running.final {ι : Type*} [Fintype ι] {P : Prop} {S : ℝ} {m s : EReal} (h : Running P S m s) (x : ι → EReal)
    (hP : P ↔ ∃ i, x i = ⊤) (hS : S = ∑ i, er (x i)) : m + Ideal.log s = lse x := by
  obtain ⟨h0, h⟩ := h
  unfold lse
  rcases h with ⟨hn, r, rfl, rfl⟩ | ⟨hp, rfl, rfl⟩
  · rw [if_neg (fun hx => hn (hP.mpr hx)), add_comm, log_scale_add r h0, hS]
  · rw [if_pos (hP.mp hp), log_zero, EReal.add_bot]

/-! ## Counts -/

/-- A select on a bit that is set exactly when `p` holds. -/
theorem select_iff {α : Type} {b : BitVec 1} {p : Prop} [Decidable p] (h : b = 1#1 ↔ p) (x y : α) :
    Scalar.select b x y = if p then x else y := by
  rcases BitVec.eq_zero_or_eq_one b with hb | hb
  · rw [if_neg (fun hp => by rw [h.mpr hp] at hb; exact absurd hb (by decide)), hb]; rfl
  · rw [if_pos (h.mp hb), hb]; rfl

/-- A decided bit is set exactly when its proposition holds. -/
theorem ofBool_iff (p : Prop) [Decidable p] : BitVec.ofBool (decide p) = 1#1 ↔ p := by
  by_cases h : p <;> simp [h]

/-- The conjunction of a bit with a complemented one. -/
theorem andi_not_iff (a b : BitVec 1) : IntOp.andi a (IntOp.xori b 1#1) = 1#1 ↔ a = 1#1 ∧ ¬b = 1#1 := by
  revert a b; decide

/-- The conjunction of two bits. -/
theorem andi_iff (a b : BitVec 1) : IntOp.andi a b = 1#1 ↔ a = 1#1 ∧ b = 1#1 := by
  revert a b; decide

/-- An equality test's bit. -/
theorem cmpi_eq_iff {w : ℕ} (a b : BitVec w) : IntOp.cmpi CmpIPredicate.eq a b = 1#1 ↔ a = b := by
  rw [← beq_iff_eq (a := a)]
  show BitVec.ofBool (a == b) = 1#1 ↔ _
  generalize (a == b) = t
  revert t; decide

/-- An inequality test's bit. -/
theorem cmpi_ne_iff {w : ℕ} (a b : BitVec w) : IntOp.cmpi CmpIPredicate.ne a b = 1#1 ↔ a ≠ b := by
  rw [← bne_iff_ne (a := a)]
  show BitVec.ofBool (a != b) = 1#1 ↔ _
  generalize (a != b) = t
  revert t; decide

/-- Two small numbers have the same word exactly when they are equal. -/
theorem ofNat_inj {a b : ℕ} (ha : a < 2 ^ 31) (hb : b < 2 ^ 31) : BitVec.ofNat 32 a = BitVec.ofNat 32 b ↔ a = b := by
  rw [← BitVec.toNat_inj, BitVec.toNat_ofNat, BitVec.toNat_ofNat, Nat.mod_eq_of_lt (by omega), Nat.mod_eq_of_lt (by omega)]

/-- The maximum of zeros and ones is positive exactly when there is a one. -/
theorem zero_lt_fold_iff {ι : Type*} [Fintype ι] (p : ι → Prop) [DecidablePred p] :
    0 < Finset.fold max ⊥ (fun i => if p i then (1 : EReal) else 0) Finset.univ ↔ ∃ i, p i := by
  rw [fold_max_eq_sup, Finset.lt_sup_iff]
  constructor
  · rintro ⟨i, -, hi⟩
    by_cases h : p i
    · exact ⟨i, h⟩
    · rw [if_neg h] at hi; exact absurd hi (lt_irrefl _)
  · rintro ⟨i, hi⟩
    exact ⟨i, Finset.mem_univ i, by rw [if_pos hi]; exact zero_lt_one⟩

/-- A sum of ones over the members that have a property is their number. -/
theorem sum_ones {ι : Type*} [Fintype ι] (p : ι → Prop) [DecidablePred p] :
    (∑ i, if p i then (1 : EReal) else 0) = (((Finset.univ.filter p).card : ℝ) : EReal) := by
  have h : ∀ i, (if p i then (1 : EReal) else 0) = ((if p i then (1 : ℝ) else 0 : ℝ) : EReal) := fun i => by
    split <;> simp
  simp only [h]
  rw [coe_sum, Finset.sum_boole]

/-- The word sum of widened bits is the number of set bits. -/
theorem fold_bits {ι : Type*} (s : Finset ι) (b : ι → BitVec 1) :
    Finset.fold IntOp.addi (0#32) (fun i => BitVec.setWidth 32 (b i)) s = BitVec.ofNat 32 (s.filter (fun i => b i = 1#1)).card := by
  classical
  induction s using Finset.induction_on with
  | empty => rfl
  | insert a s ha ih =>
    rw [Finset.fold_insert ha, ih, Finset.filter_insert]
    rcases BitVec.eq_zero_or_eq_one (b a) with h | h
    · rw [if_neg (by rw [h]; decide), h]
      show (BitVec.setWidth 32 0#1 + _) = _
      simp
    · rw [if_pos h, Finset.card_insert_of_notMem (by simp [ha]), h]
      show (BitVec.setWidth 32 1#1 + _) = _
      apply BitVec.eq_of_toNat_eq
      simp [BitVec.toNat_add, BitVec.toNat_ofNat]
      omega

/-- A number below `2 ^ 31`, converted to a word. -/
theorem fptosi_nat {n : ℕ} (hn : n < 2 ^ 31) : Ideal.fptosi 32 ((n : ℝ) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num at hn ⊢; omega
  rw [this, BitVec.ofInt_natCast]

/-- A small number's word, read as a signed integer, is the number. -/
theorem toInt_ofNat {n : ℕ} (hn : n < 2 ^ 31) : (BitVec.ofNat 32 n).toInt = (n : ℤ) := by
  rw [BitVec.toInt_eq_toNat_cond, BitVec.toNat_ofNat, Nat.mod_eq_of_lt (by omega), if_pos (by omega)]

/-- The count's larger with 1, converted back from its word. -/
theorem sitofp_max_one {n : ℕ} (hn : n < 2 ^ 31) :
    (FloatOps.sitofp (F := Ideal) FTy.f32 (IntOp.maxsi (BitVec.ofNat 32 n) 1#32)) = max ((n : ℝ) : EReal) 1 := by
  show ((((IntOp.maxsi (BitVec.ofNat 32 n) 1#32).toInt : ℝ)) : EReal) = _
  have h : (IntOp.maxsi (BitVec.ofNat 32 n) 1#32).toInt = max (n : ℤ) 1 := by
    unfold IntOp.maxsi
    have h1 : (1#32).toInt = 1 := by decide
    simp only [BitVec.slt, toInt_ofNat hn, h1]
    split
    · rename_i h; simp only [decide_eq_true_eq] at h; first | rw [h1] | rw [toInt_ofNat hn]
      all_goals omega
    · rename_i h; simp only [decide_eq_true_eq] at h; first | rw [h1] | rw [toInt_ofNat hn]
      all_goals omega
  rw [h]
  have h2 : (((max (n : ℤ) 1 : ℤ) : ℝ)) = max (n : ℝ) 1 := by push_cast; rfl
  rw [h2, ← EReal.coe_one]
  exact EReal.coe_strictMono.monotone.map_max

/-- A count's word is positive exactly when the count is. -/
theorem cmpi_sgt_zero {n : ℕ} (hn : n < 2 ^ 31) :
    IntOp.cmpi CmpIPredicate.sgt (BitVec.ofNat 32 n) 0#32 = BitVec.ofBool (decide (0 < n)) := by
  have h0 : (0#32).toInt = 0 := by decide
  simp only [IntOp.cmpi, BitVec.slt, toInt_ofNat hn, h0]
  congr 1
  simp

/-- The single-precision pattern of minus infinity. -/
theorem ofBits_neg_inf : Ideal.ofBits .f32 0xFF800000#32 = ⊥ := by
  simp [Ideal.ofBits, Ideal.ieee]

/-- The single-precision pattern of one half. -/
theorem ofBits_half : Ideal.ofBits .f32 0x3F000000#32 = (((1 : ℝ) / 2 : ℝ) : EReal) := by
  simp [Ideal.ofBits, Ideal.ieee, -EReal.coe_mul]; norm_num

/-- The running maximum's starting pattern is some real. -/
theorem ofBits_start : ∃ r : ℝ, Ideal.ofBits .f32 0xF149F2CA#32 = (r : EReal) := by
  simp [Ideal.ofBits, Ideal.ieee, -EReal.coe_mul, -EReal.coe_neg]

end Cert.Supcon
-- ==== Proof.Spec.lean ====
/-
  The three results as plain functions of the argument arrays: for each anchor `(v, l)` (view, position) over all
  16384 embeddings `(u, q)`, the scaled dot products, which pairs are positives, the log-sum-exp without the anchor
  itself, the number of positives and the loss.
-/
module

public import proofs.«01_k».proof.Proof.Math

@[expose] public section

noncomputable section

namespace Cert.Supcon

open Idealize.ShloMosaic

variable (cd : Fin 2 → Fin 8192 → Fin 128 → EReal) (sc : Fin 2 → Fin 8192 → EReal) (tg : Fin 8192 → Fin 32 → BitVec 32)

/-- The logit of anchor `(v, l)` against embedding `q`: the dot product of their codes, times the product of their
    scales, times the inverse temperature 10. -/
def logit (v : Fin 2) (l : Fin 8192) (q : Fin 2 × Fin 8192) : EReal :=
  (∑ d, cd v l d * cd q.1 q.2 d) * (sc v l * sc q.1 q.2) * Ideal.ofBits .f32 0x41200000#32

/-- Embedding `q` is the anchor itself. -/
def self (v : Fin 2) (l : Fin 8192) (q : Fin 2 × Fin 8192) : Prop := v = q.1 ∧ l = q.2

instance (v : Fin 2) (l : Fin 8192) (q : Fin 2 × Fin 8192) : Decidable (self v l q) := Classical.propDecidable _

/-- The anchor's logits with its own replaced by minus infinity. -/
def masked (v : Fin 2) (l : Fin 8192) (q : Fin 2 × Fin 8192) : EReal := if self v l q then ⊥ else logit cd sc v l q

/-- Positions `l` and `q` share a tag: some tag word has a bit set at both. -/
def share (l q : Fin 8192) : Prop := ∃ w, tg l w &&& tg q w ≠ 0#32

instance (l q : Fin 8192) : Decidable (share tg l q) := Classical.propDecidable _

/-- Embedding `q` is a positive of the anchor: it shares a tag and is not the anchor itself. -/
def pos (v : Fin 2) (l : Fin 8192) (q : Fin 2 × Fin 8192) : Prop := share tg l q.2 ∧ ¬self v l q

instance (v : Fin 2) (l : Fin 8192) (q : Fin 2 × Fin 8192) : Decidable (pos tg v l q) := Classical.propDecidable _

/-- The number of the anchor's positives. -/
def cnt (v : Fin 2) (l : Fin 8192) : ℕ := (Finset.univ.filter fun q => pos tg v l q).card

/-- There are at most 16384 positives. -/
theorem cnt_lt (v : Fin 2) (l : Fin 8192) : cnt tg v l < 2 ^ 31 :=
  lt_of_le_of_lt (Finset.card_le_univ _) (by rw [Fintype.card_prod, Fintype.card_fin, Fintype.card_fin]; norm_num)

/-- The sum of the positives' logits. -/
def posSum (v : Fin 2) (l : Fin 8192) : EReal := ∑ q, if pos tg v l q then logit cd sc v l q else 0

/-- The anchor's log-sum-exp over every other embedding. -/
def lseRow (v : Fin 2) (l : Fin 8192) : EReal := lse (masked cd sc v l)

/-- The anchor's loss: 0 without a positive, else the scaled difference of the positives' mean logit and the
    log-sum-exp. -/
def lossRow (v : Fin 2) (l : Fin 8192) : EReal :=
  if 0 < cnt tg v l then
    Ideal.ofBits .f32 0xBFB6DB6E#32 * (Ideal.div (posSum cd sc tg v l) (max ((cnt tg v l : ℝ) : EReal) 1) - lseRow cd sc v l)
  else 0

/-- The count as the 32-bit word that is stored. -/
def countRow (v : Fin 2) (l : Fin 8192) : BitVec 32 := BitVec.ofNat 32 (cnt tg v l)

end Cert.Supcon
-- ==== Proof.Row.lean ====
/-
  One anchor's running values over the 32 tiles of embeddings: maximum, sum of exponentials, sum of the positives'
  logits and number of positives, and what they come to after the last tile.
-/
module

public import proofs.«01_k».proof.Proof.Spec

@[expose] public section

noncomputable section

namespace Cert.Supcon

open Idealize.ShloMosaic

/-- Position `c` of tile `j`. -/
def col (j : Fin 32) (c : Fin 256) : Fin 8192 := ⟨256 * j.val + c.val, by omega⟩

/-- The 8192 positions are 32 tiles of 256. -/
def tile : Fin 32 × Fin 256 ≃ Fin 8192 where
  toFun p := col p.1 p.2
  invFun q := (⟨q.val / 256, by omega⟩, ⟨q.val % 256, by omega⟩)
  left_inv p := Prod.ext (Fin.ext (by unfold col; dsimp only; omega)) (Fin.ext (by unfold col; dsimp only; omega))
  right_inv q := Fin.ext (by unfold col; dsimp only; omega)

/-- Two positions are equal exactly when their tiles and places in them are. -/
theorem col_inj (i j : Fin 32) (r c : Fin 256) : col i r = col j c ↔ i = j ∧ r = c := by
  rw [show col i r = tile (i, r) from rfl, show col j c = tile (j, c) from rfl, tile.apply_eq_iff_eq, Prod.ext_iff]

/-- A sum over all embeddings, tile by tile. -/
theorem sum_tiles {M : Type*} [AddCommMonoid M] (f : Fin 2 × Fin 8192 → M) :
    ∑ q, f q = ∑ j, ∑ u, ∑ c, f (u, col j c) := by
  rw [Fintype.sum_prod_type, Finset.sum_comm (s := (Finset.univ : Finset (Fin 32)))]
  refine Finset.sum_congr rfl fun u _ => ?_
  rw [← tile.sum_comp, Fintype.sum_prod_type]
  rfl

/-- The sum of a function over the first `k` tiles. -/
def upto {M : Type*} [AddCommMonoid M] (g : Fin 32 → M) (k : ℕ) : M :=
  ∑ j ∈ Finset.range k, if h : j < 32 then g ⟨j, h⟩ else 0

/-- One more tile. -/
theorem upto_succ {M : Type*} [AddCommMonoid M] (g : Fin 32 → M) (k : Fin 32) : upto g (k.val + 1) = upto g k.val + g k := by
  unfold upto; rw [Finset.sum_range_succ, dif_pos k.isLt]

/-- All the tiles. -/
theorem upto_all {M : Type*} [AddCommMonoid M] (g : Fin 32 → M) : upto g 32 = ∑ j, g j := by
  unfold upto; rw [Finset.sum_range]; exact Finset.sum_congr rfl fun j _ => dif_pos j.isLt

variable (cd : Fin 2 → Fin 8192 → Fin 128 → EReal) (sc : Fin 2 → Fin 8192 → EReal) (tg : Fin 8192 → Fin 32 → BitVec 32)

/-- Anchor `(v, l)`'s running values before tile `k`. -/
structure Row (v : Fin 2) (l : Fin 8192) (k : ℕ) (m s p c : EReal) : Prop where
  run : Running (∃ j : Fin 32, j.val < k ∧ ∃ u x, masked cd sc v l (u, col j x) = ⊤)
    (upto (fun j => ∑ u, ∑ x, er (masked cd sc v l (u, col j x))) k) m s
  sum : p = upto (fun j => ∑ u, ∑ x, if pos tg v l (u, col j x) then logit cd sc v l (u, col j x) else 0) k
  num : c = upto (fun j => ∑ u, ∑ x, if pos tg v l (u, col j x) then (1 : EReal) else 0) k

/-- Before the first tile. -/
theorem Row.init (v : Fin 2) (l : Fin 8192) (r : ℝ) : Row cd sc tg v l 0 (r : EReal) 0 0 0 where
  run := by
    have h : (∃ j : Fin 32, j.val < 0 ∧ ∃ u x, masked cd sc v l (u, col j x) = ⊤) = False :=
      eq_false fun ⟨j, hj, _⟩ => absurd hj (Nat.not_lt_zero _)
    rw [h]; exact Running.init r
  sum := rfl
  num := rfl

variable {cd sc tg}

/-- ONE TILE: the first view's block of it, then the second's. -/
theorem Row.step {v : Fin 2} {l : Fin 8192} {k : Fin 32} {m s p c m1 s1 m2 s2 p2 c2 : EReal} (h : Row cd sc tg v l k.val m s p c)
    (hm1 : m1 = max m (Finset.fold max ⊥ (fun x => masked cd sc v l (0, col k x)) Finset.univ))
    (hs1 : s1 = s * Ideal.exp (m - m1) + ∑ x, Ideal.exp (masked cd sc v l (0, col k x) - m1))
    (hm2 : m2 = max m1 (Finset.fold max ⊥ (fun x => masked cd sc v l (1, col k x)) Finset.univ))
    (hs2 : s2 = s1 * Ideal.exp (m1 - m2) + ∑ x, Ideal.exp (masked cd sc v l (1, col k x) - m2))
    (hp : p2 = p + (∑ x, if pos tg v l (0, col k x) then logit cd sc v l (0, col k x) else 0)
      + ∑ x, if pos tg v l (1, col k x) then logit cd sc v l (1, col k x) else 0)
    (hc : c2 = c + (∑ x, if pos tg v l (0, col k x) then (1 : EReal) else 0)
      + ∑ x, if pos tg v l (1, col k x) then (1 : EReal) else 0) :
    Row cd sc tg v l (k.val + 1) m2 s2 p2 c2 where
  run := by
    have h1 := h.run.step fun x => masked cd sc v l (0, col k x)
    rw [← hm1, ← hs1] at h1
    have h2 := h1.step fun x => masked cd sc v l (1, col k x)
    rw [← hm2, ← hs2] at h2
    have hP : (∃ j : Fin 32, j.val < k.val + 1 ∧ ∃ u x, masked cd sc v l (u, col j x) = ⊤)
        = (((∃ j : Fin 32, j.val < k.val ∧ ∃ u x, masked cd sc v l (u, col j x) = ⊤)
          ∨ ∃ x, masked cd sc v l (0, col k x) = ⊤) ∨ ∃ x, masked cd sc v l (1, col k x) = ⊤) := by
      apply propext
      constructor
      · rintro ⟨j, hj, u, x, hx⟩
        rcases Nat.lt_succ_iff_lt_or_eq.mp hj with hj | hj
        · exact .inl (.inl ⟨j, hj, u, x, hx⟩)
        · obtain rfl := Fin.ext hj
          match u, hx with
          | 0, hx => exact .inl (.inr ⟨x, hx⟩)
          | 1, hx => exact .inr ⟨x, hx⟩
      · rintro ((⟨j, hj, u, x, hx⟩ | ⟨x, hx⟩) | ⟨x, hx⟩)
        · exact ⟨j, by omega, u, x, hx⟩
        · exact ⟨k, by omega, 0, x, hx⟩
        · exact ⟨k, by omega, 1, x, hx⟩
    rw [hP, upto_succ, Fin.sum_univ_two, ← add_assoc]
    exact h2
  sum := by rw [upto_succ, ← h.sum, Fin.sum_univ_two, ← add_assoc]; exact hp
  num := by rw [upto_succ, ← h.num, Fin.sum_univ_two, ← add_assoc]; exact hc

/-- After the last tile: the log-sum-exp. -/
theorem Row.lse_eq {v : Fin 2} {l : Fin 8192} {m s p c : EReal} (h : Row cd sc tg v l 32 m s p c) :
    m + Ideal.log s = lseRow cd sc v l := by
  refine h.run.final (masked cd sc v l) ⟨?_, ?_⟩ ?_
  · rintro ⟨j, -, u, x, hx⟩; exact ⟨_, hx⟩
  · rintro ⟨⟨u, q⟩, hq⟩
    obtain ⟨⟨j, x⟩, rfl⟩ := tile.surjective q
    exact ⟨j, j.isLt, u, x, hq⟩
  · rw [upto_all, sum_tiles]

/-- After the last tile: the positives' logits' sum. -/
theorem Row.sum_eq {v : Fin 2} {l : Fin 8192} {m s p c : EReal} (h : Row cd sc tg v l 32 m s p c) :
    p = posSum cd sc tg v l := by
  rw [h.sum, upto_all]; exact (sum_tiles fun q => if pos tg v l q then logit cd sc v l q else 0).symm

/-- After the last tile: the number of positives. -/
theorem Row.num_eq {v : Fin 2} {l : Fin 8192} {m s p c : EReal} (h : Row cd sc tg v l 32 m s p c) :
    c = ((cnt tg v l : ℝ) : EReal) := by
  rw [h.num, upto_all]; unfold cnt; rw [← sum_ones]
  exact (sum_tiles fun q => if pos tg v l q then (1 : EReal) else 0).symm

/-- After the last tile: the loss. -/
theorem Row.loss_eq {v : Fin 2} {l : Fin 8192} {m s p c : EReal} (h : Row cd sc tg v l 32 m s p c) :
    (if 0 < c then Ideal.ofBits .f32 0xBFB6DB6E#32 * (Ideal.div p (max c 1) - (m + Ideal.log s)) else 0)
      = lossRow cd sc tg v l := by
  rw [h.lse_eq, h.sum_eq, h.num_eq]
  unfold lossRow
  have hc : (0 : EReal) < ((cnt tg v l : ℝ) : EReal) ↔ 0 < cnt tg v l := by
    rw [← EReal.coe_zero, EReal.coe_lt_coe_iff, Nat.cast_pos]
  by_cases h0 : 0 < cnt tg v l
  · rw [if_pos h0, if_pos (hc.mpr h0)]
  · rw [if_neg h0, if_neg (fun h1 => h0 (hc.mp h1))]

/-- After the last tile: the count's word. -/
theorem Row.count_eq {v : Fin 2} {l : Fin 8192} {m s p c : EReal} (h : Row cd sc tg v l 32 m s p c) :
    Ideal.fptosi 32 c = countRow tg v l := by
  rw [h.num_eq, fptosi_nat (cnt_lt tg v l)]; rfl

end Cert.Supcon
-- ==== Proof.Tile.lean ====
/-
  The kernel's vector operations on one tile, read at an index.
-/
module

public import proofs.«01_k».proof.Proof.Row
public import proofs.«01_k».proof.Proof.Gen.KernelIdeal.Loops
public import Idealize.ShloMosaic.Lib.Pipeline.ValueKit
public import Idealize.ShloMosaic.Lib.Pointwise

@[expose] public section

set_option maxRecDepth 16384

noncomputable section

namespace Cert.KernelIdeal.Tile

open Idealize.ShloMosaic Idealize.ShloMosaic.TcCoe
open Cert.KernelIdeal Cert.KernelIdeal.Gen Cert.Supcon

variable (a : FVec Ideal S256x128 .fp8e4m3) (sa : FVec Ideal S256x1 .f32) (b : Vec Ideal S1x256x128 .fp8e4m3) (sb : Vec Ideal S1x256 .f32)
  (m s p n : FVec Ideal S256x1 .f32) (sh dg : IVec S256x256 1) (L : FVec Ideal S256x256 .f32) (r c : Fin 256)

/-- A block's logit, from the anchors' codes and scales and the block's. -/
def dot : EReal :=
  (∑ d, a (ix2 r d) * b (ix3 0 c d)) * (sa (ix2 r 0) * sb (ix2 0 c)) * Ideal.ofBits .f32 0x41200000#32

/-- A block's logits: first view against the first. -/
theorem pay4_apply : k1_pay4 a sa b sb (ix2 r c) = dot a sa b sb r c := by
  pointwise [k1_pay4]; rfl
/-- A block's logits: first view against the second. -/
theorem pay10_apply : k1_pay10 a sa b sb (ix2 r c) = dot a sa b sb r c := by
  pointwise [k1_pay10]; rfl
/-- A block's logits: second view against the first. -/
theorem pay16_apply : k1_pay16 a sa (k1_pay15 b) sb (ix2 r c) = dot a sa b sb r c := by
  pointwise [k1_pay16, k1_pay15]; rfl
/-- A block's logits: second view against the second. -/
theorem pay21_apply : k1_pay21 a sa b sb (ix2 r c) = dot a sa b sb r c := by
  pointwise [k1_pay21]; rfl

/-- Two positions share a tag: their tag indicator rows meet. -/
theorem pay2_apply (h h' : Vec Ideal S256x1024 .bf16) :
    k1_pay2 (k1_pay22 h) h' (ix2 r c) = 1#1 ↔ Ideal.ofBits .f32 0x3F000000#32 < ∑ x, (h (ix2 r x) * h' (ix2 c x) : EReal) := by
  pointwise [k1_pay2, k1_pay22]
  rw [ofBool_iff]

/-- The tile on the diagonal has its diagonal marked. -/
theorem pay3_apply (i k : Fin 32) (j : Fin k1_t1_loop.trips) (hj : j.val = k.val) :
    k1_pay3 (BitVec.ofNat 32 i.val) k1_pay27 0#32 1#32 j (ix2 r c) = 1#1 ↔ col i r = col k c := by
  pointwise [k1_pay3, k1_pay27]
  have hiv : Scf.iv 0#32 1#32 j.val = BitVec.ofNat 32 k.val := by
    rw [hj]; unfold Scf.iv; simp
  rw [andi_iff, cmpi_eq_iff, hiv, ofNat_inj (by omega) (by omega), col_inj]
  rw [show Scalar.cmpi CmpIPredicate.eq (BitVec.ofNat 32 i.val) (BitVec.ofNat 32 k.val)
    = IntOp.cmpi CmpIPredicate.eq (BitVec.ofNat 32 i.val) (BitVec.ofNat 32 k.val) from rfl, cmpi_eq_iff,
    ofNat_inj (by omega) (by omega), Fin.ext_iff, Fin.ext_iff]
  exact and_comm

/-- A positive pair's mark on the diagonal tile, first view. -/
theorem pay5_apply (w : BitVec 32) (h h' : Vec Ideal S256x1024 .bf16) (j : Fin k1_t1_loop.trips) :
    k1_pay5 w (k1_pay22 h) dg 0#32 1#32 j h' (ix2 r c) = 1#1
      ↔ k1_pay2 (k1_pay22 h) h' (ix2 r c) = 1#1 ∧ ¬k1_pay3 w dg 0#32 1#32 j (ix2 r c) = 1#1 := by
  rw [← andi_not_iff]
  pointwise [k1_pay5]

/-- A positive pair's mark, second view. -/
theorem pay30_apply : k1_pay30 sh dg (constantI S256x256 1 1#1) (ix2 r c) = 1#1 ↔ sh (ix2 r c) = 1#1 ∧ ¬dg (ix2 r c) = 1#1 := by
  rw [← andi_not_iff]
  pointwise [k1_pay30]

variable (w : BitVec 32) (j : Fin k1_t1_loop.trips)

/-- The first view's own block with the diagonal masked. -/
theorem pay6_apply : k1_pay6 w a sa dg 0#32 1#32 j b sb (ix2 r c)
    = Scalar.select (k1_pay3 w dg 0#32 1#32 j (ix2 r c)) (⊥ : EReal) (dot a sa b sb r c) := by
  rw [← pay4_apply, ← ofBits_neg_inf]
  pointwise [k1_pay6]

/-- The running maximum after the first view's own block. -/
theorem pay7_apply : k1_pay7 w a sa dg 0#32 1#32 j m b sb (ix2 r 0)
    = max (m (ix2 r 0)) (Finset.fold max ⊥ (fun x => k1_pay6 w a sa dg 0#32 1#32 j b sb (ix2 r x)) Finset.univ) := by
  rw [← ofBits_neg_inf]
  pointwise [k1_pay7]

/-- The running sum after the first view's own block. -/
theorem pay8_apply : k1_pay8 w a sa dg 0#32 1#32 j m s b sb (ix2 r 0)
    = s (ix2 r 0) * Ideal.exp (m (ix2 r 0) - k1_pay7 w a sa dg 0#32 1#32 j m b sb (ix2 r 0))
      + ∑ x, Ideal.exp (k1_pay6 w a sa dg 0#32 1#32 j b sb (ix2 r x) - k1_pay7 w a sa dg 0#32 1#32 j m b sb (ix2 r 0)) := by
  pointwise [k1_pay8]

/-- The positives' sum after the first view's own block. -/
theorem pay9_apply (h : FVec Ideal S256x1024 .bf16) (h' : Vec Ideal S256x1024 .bf16) : k1_pay9 w h a sa dg 0#32 1#32 j p h' b sb (ix2 r 0)
    = p (ix2 r 0) + ∑ x, Scalar.select (k1_pay5 w h dg 0#32 1#32 j h' (ix2 r x)) (k1_pay4 a sa b sb (ix2 r x)) 0 := by
  pointwise [k1_pay9]

/-- The first view's running maximum after the second view's block. -/
theorem pay11_apply : k1_pay11 a sa m b sb (ix2 r 0)
    = max (m (ix2 r 0)) (Finset.fold max ⊥ (fun x => k1_pay10 a sa b sb (ix2 r x)) Finset.univ) := by
  rw [← ofBits_neg_inf]
  pointwise [k1_pay11]

/-- The first view's running sum after the second view's block. -/
theorem pay12_apply : k1_pay12 a sa m s b sb (ix2 r 0)
    = s (ix2 r 0) * Ideal.exp (m (ix2 r 0) - k1_pay11 a sa m b sb (ix2 r 0))
      + ∑ x, Ideal.exp (k1_pay10 a sa b sb (ix2 r x) - k1_pay11 a sa m b sb (ix2 r 0)) := by
  pointwise [k1_pay12]

/-- The first view's positives' sum after the second view's block. -/
theorem pay13_apply : k1_pay13 a sa sh p b sb (ix2 r 0)
    = p (ix2 r 0) + ∑ x, Scalar.select (sh (ix2 r x)) (k1_pay10 a sa b sb (ix2 r x)) 0 := by
  pointwise [k1_pay13]

/-- The first view's count after both blocks. -/
theorem pay14_apply (z : Ideal .f32) : k1_pay14 n sh dg z (ix2 r 0)
    = n (ix2 r 0) + ∑ x, Scalar.select (dg (ix2 r x)) z 0 + ∑ x, Scalar.select (sh (ix2 r x)) (1 : EReal) 0 := by
  pointwise [k1_pay14]

/-- The second view's running maximum after the first view's block. -/
theorem pay17_apply (b' : FVec Ideal S256x128 .fp8e4m3) : k1_pay17 a sa m b' sb (ix2 r 0)
    = max (m (ix2 r 0)) (Finset.fold max ⊥ (fun x => k1_pay16 a sa b' sb (ix2 r x)) Finset.univ) := by
  rw [← ofBits_neg_inf]
  pointwise [k1_pay17]

/-- The second view's running sum after the first view's block. -/
theorem pay18_apply (b' : FVec Ideal S256x128 .fp8e4m3) : k1_pay18 a sa m s b' sb (ix2 r 0)
    = s (ix2 r 0) * Ideal.exp (m (ix2 r 0) - k1_pay17 a sa m b' sb (ix2 r 0))
      + ∑ x, Ideal.exp (k1_pay16 a sa b' sb (ix2 r x) - k1_pay17 a sa m b' sb (ix2 r 0)) := by
  pointwise [k1_pay18]

/-- The second view's positives' sum after the first view's block. -/
theorem pay19_apply (b' : FVec Ideal S256x128 .fp8e4m3) : k1_pay19 a sa p sh b' sb (ix2 r 0)
    = p (ix2 r 0) + ∑ x, Scalar.select (sh (ix2 r x)) (k1_pay16 a sa b' sb (ix2 r x)) 0 := by
  pointwise [k1_pay19]

/-- The second view's count after the first view's block. -/
theorem pay20_apply : k1_pay20 n sh (ix2 r 0) = n (ix2 r 0) + ∑ x, Scalar.select (sh (ix2 r x)) (1 : EReal) 0 := by
  pointwise [k1_pay20]

/-- The second view's own block with the diagonal masked. -/
theorem pay31_apply : k1_pay31 dg L (ix2 r c) = Scalar.select (dg (ix2 r c)) (⊥ : EReal) (L (ix2 r c)) := by
  rw [← ofBits_neg_inf]
  pointwise [k1_pay31]

/-- The second view's running maximum after its own block. -/
theorem pay32_apply : k1_pay32 dg m L (ix2 r 0)
    = max (m (ix2 r 0)) (Finset.fold max ⊥ (fun x => k1_pay31 dg L (ix2 r x)) Finset.univ) := by
  rw [← ofBits_neg_inf]
  pointwise [k1_pay32]

/-- The second view's running sum after its own block. -/
theorem pay33_apply : k1_pay33 dg m s L (ix2 r 0)
    = s (ix2 r 0) * Ideal.exp (m (ix2 r 0) - k1_pay32 dg m L (ix2 r 0))
      + ∑ x, Ideal.exp (k1_pay31 dg L (ix2 r x) - k1_pay32 dg m L (ix2 r 0)) := by
  pointwise [k1_pay33]

/-- The second view's positives' sum after its own block. -/
theorem pay34_apply (t : IVec S256x256 1) : k1_pay34 sh dg p L t (ix2 r 0)
    = p (ix2 r 0) + ∑ x, Scalar.select (k1_pay30 sh dg t (ix2 r x)) (L (ix2 r x)) 0 := by
  pointwise [k1_pay34]

/-- The second view's count after its own block. -/
theorem pay35_apply (t : IVec S256x256 1) : k1_pay35 sh dg n t (ix2 r 0)
    = n (ix2 r 0) + ∑ x, Scalar.select (k1_pay30 sh dg t (ix2 r x)) (1 : EReal) 0 := by
  pointwise [k1_pay35]

/-- The first view's codes as a matrix. -/
theorem pay23_apply (x : Vec Ideal S1x256x128 .fp8e4m3) (d : Fin 128) : k1_pay23 x (ix2 r d) = x (ix3 0 r d) := by
  pointwise [k1_pay23]
/-- The second view's codes as a matrix. -/
theorem pay24_apply (x : Vec Ideal S1x256x128 .fp8e4m3) (d : Fin 128) : k1_pay24 x (ix2 r d) = x (ix3 0 r d) := by
  pointwise [k1_pay24]
/-- The first view's scales as a column. -/
theorem pay25_apply (x : Vec Ideal S1x256 .f32) : k1_pay25 x (ix2 r 0) = x (ix2 0 r) := by
  pointwise [k1_pay25]
/-- The second view's scales as a column. -/
theorem pay26_apply (x : Vec Ideal S1x256 .f32) : k1_pay26 x (ix2 r 0) = x (ix2 0 r) := by
  pointwise [k1_pay26]
/-- The sums start at 0. -/
theorem pay28_apply : k1_pay28 (F := Ideal) (ix2 r 0) = (0 : EReal) := by
  pointwise [k1_pay28]
/-- The maximum starts at a large negative number. -/
theorem pay29_apply : k1_pay29 (F := Ideal) (ix2 r 0) = Ideal.ofBits .f32 0xF149F2CA#32 := by
  pointwise [k1_pay29]

/-- The first view's losses stored. -/
theorem pay38_apply : k1_pay38 (k1_pay37 m s p n) (ix2 0 r)
    = if 0 < n (ix2 r 0) then
        Ideal.ofBits .f32 0xBFB6DB6E#32 * (Ideal.div (p (ix2 r 0)) (max (n (ix2 r 0)) 1) - (m (ix2 r 0) + Ideal.log (s (ix2 r 0))))
      else 0 := by
  pointwise [k1_pay38, k1_pay37, k1_pay36]
/-- The second view's losses stored. -/
theorem pay42_apply : k1_pay42 m s p n (ix2 0 r)
    = if 0 < n (ix2 r 0) then
        Ideal.ofBits .f32 0xBFB6DB6E#32 * (Ideal.div (p (ix2 r 0)) (max (n (ix2 r 0)) 1) - (m (ix2 r 0) + Ideal.log (s (ix2 r 0))))
      else 0 := by
  pointwise [k1_pay42, k1_pay41]
/-- The first view's log-sum-exps stored. -/
theorem pay39_apply : k1_pay39 (k1_pay36 m s) (ix2 0 r) = m (ix2 r 0) + Ideal.log (s (ix2 r 0)) := by
  pointwise [k1_pay39, k1_pay36]
/-- The second view's log-sum-exps stored. -/
theorem pay43_apply : k1_pay43 m s (ix2 0 r) = m (ix2 r 0) + Ideal.log (s (ix2 r 0)) := by
  pointwise [k1_pay43, k1_pay41]
/-- The first view's counts stored. -/
theorem pay40_apply : k1_pay40 n (ix2 0 r) = Ideal.fptosi 32 (n (ix2 r 0)) := by
  pointwise [k1_pay40]; rfl
/-- The second view's counts stored. -/
theorem pay44_apply : k1_pay1 (k1_pay44 n) (ix2 0 r) = Ideal.fptosi 32 (n (ix2 r 0)) := by
  pointwise [k1_pay1, k1_pay44]; rfl

end Cert.KernelIdeal.Tile
-- ==== Proof.Trip.lean ====
/-
  One trip of the kernel's loop: what it makes of the carried values, and that it takes every anchor's running values
  over one more tile.
-/
module

public import proofs.«01_k».proof.Proof.Tile

@[expose] public section

set_option maxRecDepth 16384

noncomputable section

namespace Cert.KernelIdeal.Tile

open Idealize.ShloMosaic Idealize.ShloMosaic.TcCoe
open Cert.KernelIdeal Cert.KernelIdeal.Gen Cert.Supcon

/-- The eight carried columns: maximum, sum, positives' sum and count of the first view, then of the second. -/
abbrev Carry : Type :=
  FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32

/-- The first view's half of a trip. -/
def next0 (w : BitVec 32) (h h' : Vec Ideal S256x1024 .bf16) (v5 : Vec Ideal S1x256x128 .fp8e4m3) (v11 : Vec Ideal S1x256 .f32)
    (b0 b1 : Vec Ideal S1x256x128 .fp8e4m3) (t0 t1 : Vec Ideal S1x256 .f32) (j : Fin k1_t1_loop.trips) (m s p n : FVec Ideal S256x1 .f32) :
    FVec Ideal S256x1 .f32 × FVec Ideal S256x1 .f32 × FVec Ideal S256x1 .f32 × FVec Ideal S256x1 .f32 :=
  (k1_pay11 (k1_pay23 v5) (k1_pay25 v11) (k1_pay7 w (k1_pay23 v5) (k1_pay25 v11) k1_pay27 0#32 1#32 j m b0 t0) b1 t1,
   k1_pay12 (k1_pay23 v5) (k1_pay25 v11) (k1_pay7 w (k1_pay23 v5) (k1_pay25 v11) k1_pay27 0#32 1#32 j m b0 t0)
     (k1_pay8 w (k1_pay23 v5) (k1_pay25 v11) k1_pay27 0#32 1#32 j m s b0 t0) b1 t1,
   k1_pay13 (k1_pay23 v5) (k1_pay25 v11) (k1_pay2 (k1_pay22 h) h')
     (k1_pay9 w (k1_pay22 h) (k1_pay23 v5) (k1_pay25 v11) k1_pay27 0#32 1#32 j p h' b0 t0) b1 t1,
   k1_pay14 n (k1_pay2 (k1_pay22 h) h') (k1_pay5 w (k1_pay22 h) k1_pay27 0#32 1#32 j h') (Scalar.ofBits .f32 0x3F800000#32))

/-- The second view's half of a trip. -/
def next1 (w : BitVec 32) (h h' : Vec Ideal S256x1024 .bf16) (v8 : Vec Ideal S1x256x128 .fp8e4m3) (v17 : Vec Ideal S1x256 .f32)
    (b0 b1 : Vec Ideal S1x256x128 .fp8e4m3) (t0 t1 : Vec Ideal S1x256 .f32) (j : Fin k1_t1_loop.trips) (m s p n : FVec Ideal S256x1 .f32) :
    FVec Ideal S256x1 .f32 × FVec Ideal S256x1 .f32 × FVec Ideal S256x1 .f32 × FVec Ideal S256x1 .f32 :=
  (k1_pay32 (k1_pay3 w k1_pay27 0#32 1#32 j) (k1_pay17 (k1_pay24 v8) (k1_pay26 v17) m (k1_pay15 b0) t0)
     (k1_pay21 (k1_pay24 v8) (k1_pay26 v17) b1 t1),
   k1_pay33 (k1_pay3 w k1_pay27 0#32 1#32 j) (k1_pay17 (k1_pay24 v8) (k1_pay26 v17) m (k1_pay15 b0) t0)
     (k1_pay18 (k1_pay24 v8) (k1_pay26 v17) m s (k1_pay15 b0) t0) (k1_pay21 (k1_pay24 v8) (k1_pay26 v17) b1 t1),
   k1_pay34 (k1_pay2 (k1_pay22 h) h') (k1_pay3 w k1_pay27 0#32 1#32 j)
     (k1_pay19 (k1_pay24 v8) (k1_pay26 v17) p (k1_pay2 (k1_pay22 h) h') (k1_pay15 b0) t0)
     (k1_pay21 (k1_pay24 v8) (k1_pay26 v17) b1 t1) (constantI S256x256 1 1#1),
   k1_pay35 (k1_pay2 (k1_pay22 h) h') (k1_pay3 w k1_pay27 0#32 1#32 j) (k1_pay20 n (k1_pay2 (k1_pay22 h) h')) (constantI S256x256 1 1#1))

/-- A trip's new carried values, from the tile's loads. -/
def next (w : BitVec 32) (h h' : Vec Ideal S256x1024 .bf16) (v5 v8 : Vec Ideal S1x256x128 .fp8e4m3) (v11 v17 : Vec Ideal S1x256 .f32)
    (b0 b1 : Vec Ideal S1x256x128 .fp8e4m3) (t0 t1 : Vec Ideal S1x256 .f32) (j : Fin k1_t1_loop.trips) (x : Carry) : Carry :=
  ((next0 w h h' v5 v11 b0 b1 t0 t1 j x.1 x.2.1 x.2.2.1 x.2.2.2.1).1,
   (next0 w h h' v5 v11 b0 b1 t0 t1 j x.1 x.2.1 x.2.2.1 x.2.2.2.1).2.1,
   (next0 w h h' v5 v11 b0 b1 t0 t1 j x.1 x.2.1 x.2.2.1 x.2.2.2.1).2.2.1,
   (next0 w h h' v5 v11 b0 b1 t0 t1 j x.1 x.2.1 x.2.2.1 x.2.2.2.1).2.2.2,
   (next1 w h h' v8 v17 b0 b1 t0 t1 j x.2.2.2.2.1 x.2.2.2.2.2.1 x.2.2.2.2.2.2.1 x.2.2.2.2.2.2.2).1,
   (next1 w h h' v8 v17 b0 b1 t0 t1 j x.2.2.2.2.1 x.2.2.2.2.2.1 x.2.2.2.2.2.2.1 x.2.2.2.2.2.2.2).2.1,
   (next1 w h h' v8 v17 b0 b1 t0 t1 j x.2.2.2.2.1 x.2.2.2.2.2.1 x.2.2.2.2.2.2.1 x.2.2.2.2.2.2.2).2.2.1,
   (next1 w h h' v8 v17 b0 b1 t0 t1 j x.2.2.2.2.1 x.2.2.2.2.2.1 x.2.2.2.2.2.2.1 x.2.2.2.2.2.2.2).2.2.2)

/-- WHAT A TRIP DOES, of the arrays' contents. -/
theorem trip_eq (𝒱 : Variants) (c : Dev nD) (bd : Option 𝒱.V) (i : grid1.Coords)
    (arg1 : Memref sig .tc .vmem S2x8192x128 .fp8e4m3) (harg1 : arg1.IsWhole)
    (arg2 : Memref sig .tc .vmem S2x8192 .f32) (harg2 : arg2.IsWhole)
    (arg3 : Memref sig .tc .vmem S8192x1024 .bf16) (harg3 : arg3.IsWhole)
    (arg4 : Memref sig .tc .vmem S2x256 .f32) (harg4 : arg4.IsWhole)
    (arg5 : Memref sig .tc .vmem S2x256 .f32) (harg5 : arg5.IsWhole)
    (arg6 : Memref sig .tc .vmem S2x256 .i32) (harg6 : arg6.IsWhole)
    (arg0 : BitVec 32) (v2 : Vec Ideal S256x1024 .bf16) (v5 v8 : Vec Ideal S1x256x128 .fp8e4m3)
    (v11 v17 : Vec Ideal S1x256 .f32)
    (x0 : Vec Ideal S2x8192x128 .fp8e4m3) (x1 : Vec Ideal S2x8192 .f32) (x2 : Vec Ideal S8192x1024 .bf16)
    (k : Fin k1_t1_loop.trips) (acc : Carry) :
    tripR_k1_t1 (F := Ideal) 𝒱 c bd i arg1 harg1 arg2 harg2 arg3 harg3 arg4 harg4 arg5 harg5 arg6 harg6 arg0 v2 v5 v8 v11 v17
      (harg1.unread x0) (harg2.unread x1) (harg3.unread x2) k acc
    = next arg0 v2 (View.ld x2 (Rect.unit (s := S8192x1024) (k1_off6 k) S256x1024.size (k1_off6_inb k))) v5 v8 v11 v17
        (View.ld x0 (Rect.unit (s := S2x8192x128) (k1_off7 k) S1x256x128.size (k1_off7_inb k)))
        (View.ld x0 (Rect.unit (s := S2x8192x128) (k1_off9 k) S1x256x128.size (k1_off9_inb k)))
        (View.ld x1 (Rect.unit (s := S2x8192) (k1_off8 k) S1x256.size (k1_off8_inb k)))
        (View.ld x1 (Rect.unit (s := S2x8192) (k1_off10 k) S1x256.size (k1_off10_inb k))) k acc := by
  unfold tripR_k1_t1 trip_k1_t1
  dsimp only
  sl_unfold_words
  simp only [View.readAt_eq_ld, harg1.read_unread, harg2.read_unread, harg3.read_unread]
  rfl

variable {cd : Fin 2 → Fin 8192 → Fin 128 → EReal} {sc : Fin 2 → Fin 8192 → EReal} {tg : Fin 8192 → Fin 32 → BitVec 32}
  {i k : Fin 32} {r : Fin 256} {h h' : Vec Ideal S256x1024 .bf16}
  {b0 b1 : Vec Ideal S1x256x128 .fp8e4m3} {t0 t1 : Vec Ideal S1x256 .f32} {j : Fin k1_t1_loop.trips}

/-- THE FIRST VIEW OVER ONE TILE. -/
theorem next0_row {v5 : Vec Ideal S1x256x128 .fp8e4m3} {v11 : Vec Ideal S1x256 .f32} (hj : j.val = k.val)
    (ha : ∀ d, v5 (ix3 0 r d) = cd 0 (col i r) d) (hsa : v11 (ix2 0 r) = sc 0 (col i r))
    (hb0 : ∀ c d, b0 (ix3 0 c d) = cd 0 (col k c) d) (ht0 : ∀ c, t0 (ix2 0 c) = sc 0 (col k c))
    (hb1 : ∀ c d, b1 (ix3 0 c d) = cd 1 (col k c) d) (ht1 : ∀ c, t1 (ix2 0 c) = sc 1 (col k c))
    (hh : ∀ c, Ideal.ofBits .f32 0x3F000000#32 < ∑ x, (h (ix2 r x) * h' (ix2 c x) : EReal) ↔ share tg (col i r) (col k c))
    (m s p n : FVec Ideal S256x1 .f32)
    (hrow : Row cd sc tg 0 (col i r) k.val (m (ix2 r 0)) (s (ix2 r 0)) (p (ix2 r 0)) (n (ix2 r 0))) :
    Row cd sc tg 0 (col i r) (k.val + 1) ((next0 (BitVec.ofNat 32 i.val) h h' v5 v11 b0 b1 t0 t1 j m s p n).1 (ix2 r 0))
      ((next0 (BitVec.ofNat 32 i.val) h h' v5 v11 b0 b1 t0 t1 j m s p n).2.1 (ix2 r 0))
      ((next0 (BitVec.ofNat 32 i.val) h h' v5 v11 b0 b1 t0 t1 j m s p n).2.2.1 (ix2 r 0))
      ((next0 (BitVec.ofNat 32 i.val) h h' v5 v11 b0 b1 t0 t1 j m s p n).2.2.2 (ix2 r 0)) := by
  have hd : ∀ c, k1_pay3 (BitVec.ofNat 32 i.val) k1_pay27 0#32 1#32 j (ix2 r c) = 1#1 ↔ self 0 (col i r) (0, col k c) := fun c =>
    (pay3_apply r c i k j hj).trans ⟨fun e => ⟨rfl, e⟩, fun e => e.2⟩
  have hs : ∀ c, k1_pay2 (k1_pay22 h) h' (ix2 r c) = 1#1 ↔ share tg (col i r) (col k c) := fun c => (pay2_apply r c h h').trans (hh c)
  have hdot0 : ∀ c, dot (k1_pay23 v5) (k1_pay25 v11) b0 t0 r c = logit cd sc 0 (col i r) (0, col k c) := fun c => by
    unfold dot logit; simp only [pay23_apply, pay25_apply, ha, hsa, hb0, ht0]
  have hdot1 : ∀ c, dot (k1_pay23 v5) (k1_pay25 v11) b1 t1 r c = logit cd sc 0 (col i r) (1, col k c) := fun c => by
    unfold dot logit; simp only [pay23_apply, pay25_apply, ha, hsa, hb1, ht1]
  have h6 : ∀ c, k1_pay6 (BitVec.ofNat 32 i.val) (k1_pay23 v5) (k1_pay25 v11) k1_pay27 0#32 1#32 j b0 t0 (ix2 r c)
      = masked cd sc 0 (col i r) (0, col k c) := fun c => by
    rw [pay6_apply, select_iff (hd c), hdot0]; rfl
  have hne : ∀ c, ¬self 0 (col i r) (1, col k c) := fun c e => absurd e.1 (by show ¬(0 : Fin 2) = 1; decide)
  have h10 : ∀ c, k1_pay10 (k1_pay23 v5) (k1_pay25 v11) b1 t1 (ix2 r c) = masked cd sc 0 (col i r) (1, col k c) := fun c => by
    rw [pay10_apply, hdot1, masked, if_neg (hne c)]
  have hp0 : ∀ c, k1_pay5 (BitVec.ofNat 32 i.val) (k1_pay22 h) k1_pay27 0#32 1#32 j h' (ix2 r c) = 1#1
      ↔ pos tg 0 (col i r) (0, col k c) := fun c =>
    (pay5_apply k1_pay27 r c _ h h' j).trans (and_congr (hs c) (not_congr (hd c)))
  have hp1 : ∀ c, k1_pay2 (k1_pay22 h) h' (ix2 r c) = 1#1 ↔ pos tg 0 (col i r) (1, col k c) := fun c =>
    (hs c).trans ⟨fun e => ⟨e, hne c⟩, fun e => e.1⟩
  unfold next0
  dsimp only
  refine hrow.step (m1 := k1_pay7 (BitVec.ofNat 32 i.val) (k1_pay23 v5) (k1_pay25 v11) k1_pay27 0#32 1#32 j m b0 t0 (ix2 r 0))
    (s1 := k1_pay8 (BitVec.ofNat 32 i.val) (k1_pay23 v5) (k1_pay25 v11) k1_pay27 0#32 1#32 j m s b0 t0 (ix2 r 0)) ?_ ?_ ?_ ?_ ?_ ?_
  · rw [pay7_apply]; simp only [h6]
  · rw [pay8_apply]; simp only [h6]
  · rw [pay11_apply]; simp only [h10]
  · rw [pay12_apply]; simp only [h10]
  · rw [pay13_apply, pay9_apply]; simp only [select_iff (hp0 _), select_iff (hp1 _), pay4_apply, pay10_apply, hdot0, hdot1]
  · rw [pay14_apply]; simp only [select_iff (hp0 _), select_iff (hp1 _)]
    rw [show (Scalar.ofBits .f32 0x3F800000#32 : Ideal .f32) = (1 : EReal) from Ideal.ofBits_one_f32]

/-- THE SECOND VIEW OVER ONE TILE. -/
theorem next1_row {v8 : Vec Ideal S1x256x128 .fp8e4m3} {v17 : Vec Ideal S1x256 .f32} (hj : j.val = k.val)
    (ha : ∀ d, v8 (ix3 0 r d) = cd 1 (col i r) d) (hsa : v17 (ix2 0 r) = sc 1 (col i r))
    (hb0 : ∀ c d, b0 (ix3 0 c d) = cd 0 (col k c) d) (ht0 : ∀ c, t0 (ix2 0 c) = sc 0 (col k c))
    (hb1 : ∀ c d, b1 (ix3 0 c d) = cd 1 (col k c) d) (ht1 : ∀ c, t1 (ix2 0 c) = sc 1 (col k c))
    (hh : ∀ c, Ideal.ofBits .f32 0x3F000000#32 < ∑ x, (h (ix2 r x) * h' (ix2 c x) : EReal) ↔ share tg (col i r) (col k c))
    (m s p n : FVec Ideal S256x1 .f32)
    (hrow : Row cd sc tg 1 (col i r) k.val (m (ix2 r 0)) (s (ix2 r 0)) (p (ix2 r 0)) (n (ix2 r 0))) :
    Row cd sc tg 1 (col i r) (k.val + 1) ((next1 (BitVec.ofNat 32 i.val) h h' v8 v17 b0 b1 t0 t1 j m s p n).1 (ix2 r 0))
      ((next1 (BitVec.ofNat 32 i.val) h h' v8 v17 b0 b1 t0 t1 j m s p n).2.1 (ix2 r 0))
      ((next1 (BitVec.ofNat 32 i.val) h h' v8 v17 b0 b1 t0 t1 j m s p n).2.2.1 (ix2 r 0))
      ((next1 (BitVec.ofNat 32 i.val) h h' v8 v17 b0 b1 t0 t1 j m s p n).2.2.2 (ix2 r 0)) := by
  have hd : ∀ c, k1_pay3 (BitVec.ofNat 32 i.val) k1_pay27 0#32 1#32 j (ix2 r c) = 1#1 ↔ self 1 (col i r) (1, col k c) := fun c =>
    (pay3_apply r c i k j hj).trans ⟨fun e => ⟨rfl, e⟩, fun e => e.2⟩
  have hs : ∀ c, k1_pay2 (k1_pay22 h) h' (ix2 r c) = 1#1 ↔ share tg (col i r) (col k c) := fun c => (pay2_apply r c h h').trans (hh c)
  have hdot0 : ∀ c, dot (k1_pay24 v8) (k1_pay26 v17) b0 t0 r c = logit cd sc 1 (col i r) (0, col k c) := fun c => by
    unfold dot logit; simp only [pay24_apply, pay26_apply, ha, hsa, hb0, ht0]
  have hdot1 : ∀ c, dot (k1_pay24 v8) (k1_pay26 v17) b1 t1 r c = logit cd sc 1 (col i r) (1, col k c) := fun c => by
    unfold dot logit; simp only [pay24_apply, pay26_apply, ha, hsa, hb1, ht1]
  have hne : ∀ c, ¬self 1 (col i r) (0, col k c) := fun c e => absurd e.1 (by show ¬(1 : Fin 2) = 0; decide)
  have h16 : ∀ c, k1_pay16 (k1_pay24 v8) (k1_pay26 v17) (k1_pay15 b0) t0 (ix2 r c) = masked cd sc 1 (col i r) (0, col k c) := fun c => by
    rw [pay16_apply, hdot0, masked, if_neg (hne c)]
  have h31 : ∀ c, k1_pay31 (k1_pay3 (BitVec.ofNat 32 i.val) k1_pay27 0#32 1#32 j) (k1_pay21 (k1_pay24 v8) (k1_pay26 v17) b1 t1) (ix2 r c)
      = masked cd sc 1 (col i r) (1, col k c) := fun c => by
    rw [pay31_apply, select_iff (hd c), pay21_apply, hdot1]; rfl
  have hp0 : ∀ c, k1_pay2 (k1_pay22 h) h' (ix2 r c) = 1#1 ↔ pos tg 1 (col i r) (0, col k c) := fun c =>
    (hs c).trans ⟨fun e => ⟨e, hne c⟩, fun e => e.1⟩
  have hp1 : ∀ c, k1_pay30 (k1_pay2 (k1_pay22 h) h') (k1_pay3 (BitVec.ofNat 32 i.val) k1_pay27 0#32 1#32 j) (constantI S256x256 1 1#1) (ix2 r c) = 1#1
      ↔ pos tg 1 (col i r) (1, col k c) := fun c =>
    (pay30_apply _ _ r c).trans (and_congr (hs c) (not_congr (hd c)))
  unfold next1
  dsimp only
  refine hrow.step (m1 := k1_pay17 (k1_pay24 v8) (k1_pay26 v17) m (k1_pay15 b0) t0 (ix2 r 0))
    (s1 := k1_pay18 (k1_pay24 v8) (k1_pay26 v17) m s (k1_pay15 b0) t0 (ix2 r 0)) ?_ ?_ ?_ ?_ ?_ ?_
  · rw [pay17_apply]; simp only [h16]
  · rw [pay18_apply]; simp only [h16]
  · rw [pay32_apply]; simp only [h31]
  · rw [pay33_apply]; simp only [h31]
  · rw [pay34_apply, pay19_apply]; simp only [select_iff (hp0 _), select_iff (hp1 _), pay16_apply, pay21_apply, hdot0, hdot1]
  · rw [pay35_apply, pay20_apply]; simp only [select_iff (hp0 _), select_iff (hp1 _)]

end Cert.KernelIdeal.Tile
-- ==== Proof.Loop.lean ====
/-
  The kernel's loop over the 32 tiles: after it, every anchor of the point's block has its complete running values.
-/
module

public import proofs.«01_k».proof.Proof.Trip

@[expose] public section

set_option maxRecDepth 16384

noncomputable section

namespace Cert.KernelIdeal.Tile

open Idealize.ShloMosaic Idealize.ShloMosaic.TcCoe
open Cert.KernelIdeal Cert.KernelIdeal.Gen Cert.Supcon

/-- A load of one view's codes of one tile. -/
theorem ld_codes {off : Fin 3 → ℕ} (v : Fin 2) (j : Fin 32) (h : off = ![v.val, 256 * j.val, 0])
    (inb : ∀ a, off a + S1x256x128.size a ≤ S2x8192x128.size a) (x : Vec Ideal S2x8192x128 .fp8e4m3) (r : Fin 256) (d : Fin 128) :
    View.ld x (Rect.unit (s := S2x8192x128) off S1x256x128.size inb) (ix3 0 r d) = x (ix3 v (col j r) d) := by
  subst h
  pointwise
  rfl

/-- A load of one view's scales of one tile. -/
theorem ld_scales {off : Fin 2 → ℕ} (v : Fin 2) (j : Fin 32) (h : off = ![v.val, 256 * j.val])
    (inb : ∀ a, off a + S1x256.size a ≤ S2x8192.size a) (x : Vec Ideal S2x8192 .f32) (r : Fin 256) :
    View.ld x (Rect.unit (s := S2x8192) off S1x256.size inb) (ix2 0 r) = x (ix2 v (col j r)) := by
  subst h
  pointwise
  rfl

/-- A load of one tile's tag indicators. -/
theorem ld_hot {off : Fin 2 → ℕ} (j : Fin 32) (h : off = ![256 * j.val, 0])
    (inb : ∀ a, off a + S256x1024.size a ≤ S8192x1024.size a) (x : Vec Ideal S8192x1024 .bf16) (r : Fin 256) (d : Fin 1024) :
    View.ld x (Rect.unit (s := S8192x1024) off S256x1024.size inb) (ix2 r d) = x (ix2 (col j r) d) := by
  subst h
  pointwise
  rfl

/-- The offsets of a load: the anchors' rows of the array of bits. -/
theorem off1_eq : ∀ i : grid1.Coords, k1_off1 i = ![256 * (i 0).val, 0] := by decide +kernel
/-- The offsets of a load: the anchors' codes, first view. -/
theorem off2_eq : ∀ i : grid1.Coords, k1_off2 i = ![(0 : Fin 2).val, 256 * (i 0).val, 0] := by decide +kernel
/-- The offsets of a load: the anchors' codes, second view. -/
theorem off3_eq : ∀ i : grid1.Coords, k1_off3 i = ![(1 : Fin 2).val, 256 * (i 0).val, 0] := by decide +kernel
/-- The offsets of a load: the anchors' scales, first view. -/
theorem off4_eq : ∀ i : grid1.Coords, k1_off4 i = ![(0 : Fin 2).val, 256 * (i 0).val] := by decide +kernel
/-- The offsets of a load: the anchors' scales, second view. -/
theorem off5_eq : ∀ i : grid1.Coords, k1_off5 i = ![(1 : Fin 2).val, 256 * (i 0).val] := by decide +kernel
/-- The offsets of a load: the tile's rows of the array of bits. -/
theorem off6_eq : ∀ k : Fin k1_t1_loop.trips, k1_off6 k = ![256 * k.val, 0] := by decide +kernel
/-- The offsets of a load: the tile's codes, first view. -/
theorem off7_eq : ∀ k : Fin k1_t1_loop.trips, k1_off7 k = ![(0 : Fin 2).val, 256 * k.val, 0] := by decide +kernel
/-- The offsets of a load: the tile's scales, first view. -/
theorem off8_eq : ∀ k : Fin k1_t1_loop.trips, k1_off8 k = ![(0 : Fin 2).val, 256 * k.val] := by decide +kernel
/-- The offsets of a load: the tile's codes, second view. -/
theorem off9_eq : ∀ k : Fin k1_t1_loop.trips, k1_off9 k = ![(1 : Fin 2).val, 256 * k.val, 0] := by decide +kernel
/-- The offsets of a load: the tile's scales, second view. -/
theorem off10_eq : ∀ k : Fin k1_t1_loop.trips, k1_off10 k = ![(1 : Fin 2).val, 256 * k.val] := by decide +kernel

/-- The loop makes 32 trips. -/
theorem trips_eq : k1_t1_loop.trips = 32 := by decide +kernel

/-- The values carried into the first trip. -/
abbrev start : Carry :=
  (k1_pay29 (F := Ideal), k1_pay28 (F := Ideal), k1_pay28 (F := Ideal), k1_pay28 (F := Ideal),
   k1_pay29 (F := Ideal), k1_pay28 (F := Ideal), k1_pay28 (F := Ideal), k1_pay28 (F := Ideal))

section

variable (c : Dev nD) (i : grid1.Coords)
    (arg1 : Memref sig .tc .vmem S2x8192x128 .fp8e4m3) (harg1 : arg1.IsWhole)
    (arg2 : Memref sig .tc .vmem S2x8192 .f32) (harg2 : arg2.IsWhole)
    (arg3 : Memref sig .tc .vmem S8192x1024 .bf16) (harg3 : arg3.IsWhole)
    (arg4 : Memref sig .tc .vmem S2x256 .f32) (harg4 : arg4.IsWhole)
    (arg5 : Memref sig .tc .vmem S2x256 .f32) (harg5 : arg5.IsWhole)
    (arg6 : Memref sig .tc .vmem S2x256 .i32) (harg6 : arg6.IsWhole)
    (x0 : Vec Ideal S2x8192x128 .fp8e4m3) (x1 : Vec Ideal S2x8192 .f32) (x2 : Vec Ideal S8192x1024 .bf16)

/-- The carried values before trip `n` of point `i`'s loop. -/
def carry (n : ℕ) : Carry :=
  st_k1_t1 (F := Ideal) Variants.none c none i arg1 harg1 arg2 harg2 arg3 harg3 arg4 harg4 arg5 harg5 arg6 harg6
    (BitVec.ofNat 32 (i 0).val)
    (View.ld x2 (Rect.unit (s := S8192x1024) (k1_off1 i) S256x1024.size (k1_off1_inb i)))
    (View.ld x0 (Rect.unit (s := S2x8192x128) (k1_off2 i) S1x256x128.size (k1_off2_inb i)))
    (View.ld x0 (Rect.unit (s := S2x8192x128) (k1_off3 i) S1x256x128.size (k1_off3_inb i)))
    (View.ld x1 (Rect.unit (s := S2x8192) (k1_off4 i) S1x256.size (k1_off4_inb i)))
    (View.ld x1 (Rect.unit (s := S2x8192) (k1_off5 i) S1x256.size (k1_off5_inb i)))
    (harg1.unread x0) (harg2.unread x1) (harg3.unread x2) start n

/-- EVERY ANCHOR'S RUNNING VALUES before trip `n`. -/
theorem carry_row (tg : Fin 8192 → Fin 32 → BitVec 32)
    (hh : ∀ l q, Ideal.ofBits .f32 0x3F000000#32 < ∑ x, (x2 (ix2 l x) * x2 (ix2 q x) : EReal) ↔ share tg l q)
    (r : Fin 256) (n : ℕ) (hn : n ≤ 32) :
    let x := carry c i arg1 harg1 arg2 harg2 arg3 harg3 arg4 harg4 arg5 harg5 arg6 harg6 x0 x1 x2 n
    Row (fun v l d => x0 (ix3 v l d)) (fun v l => x1 (ix2 v l)) tg 0 (col (i 0) r) n
        (x.1 (ix2 r 0)) (x.2.1 (ix2 r 0)) (x.2.2.1 (ix2 r 0)) (x.2.2.2.1 (ix2 r 0))
      ∧ Row (fun v l d => x0 (ix3 v l d)) (fun v l => x1 (ix2 v l)) tg 1 (col (i 0) r) n
        (x.2.2.2.2.1 (ix2 r 0)) (x.2.2.2.2.2.1 (ix2 r 0)) (x.2.2.2.2.2.2.1 (ix2 r 0)) (x.2.2.2.2.2.2.2 (ix2 r 0)) := by
  induction n with
  | zero =>
    intro x
    have hx : x = start := rfl
    rw [hx]
    obtain ⟨q, hq⟩ := ofBits_start
    dsimp only [start]
    rw [pay28_apply, pay29_apply, hq]
    exact ⟨Row.init _ _ _ _ _ q, Row.init _ _ _ _ _ q⟩
  | succ n ih =>
    intro x
    obtain ⟨ih0, ih1⟩ := ih (by omega)
    have hj : n < k1_t1_loop.trips := by rw [trips_eq]; omega
    have hx : x = _ :=
      (st_k1_t1_succ (F := Ideal) Variants.none c none i arg1 harg1 arg2 harg2 arg3 harg3 arg4 harg4 arg5 harg5 arg6 harg6
        _ _ _ _ _ _ _ _ _ _ ⟨n, hj⟩).trans (trip_eq _ _ _ _ _ _ _ _ _ _ _ _ _ _ _ _ _ _ _ _ _ _ _ _ _ _ _)
    rw [hx]
    have hb0 : ∀ c d, View.ld x0 (Rect.unit (s := S2x8192x128) (k1_off7 ⟨n, hj⟩) S1x256x128.size (k1_off7_inb ⟨n, hj⟩)) (ix3 0 c d)
        = x0 (ix3 0 (col ⟨n, by omega⟩ c) d) := fun c d => ld_codes 0 ⟨n, by omega⟩ (off7_eq _) _ x0 c d
    have hb1 : ∀ c d, View.ld x0 (Rect.unit (s := S2x8192x128) (k1_off9 ⟨n, hj⟩) S1x256x128.size (k1_off9_inb ⟨n, hj⟩)) (ix3 0 c d)
        = x0 (ix3 1 (col ⟨n, by omega⟩ c) d) := fun c d => ld_codes 1 ⟨n, by omega⟩ (off9_eq _) _ x0 c d
    have ht0 : ∀ c, View.ld x1 (Rect.unit (s := S2x8192) (k1_off8 ⟨n, hj⟩) S1x256.size (k1_off8_inb ⟨n, hj⟩)) (ix2 0 c)
        = x1 (ix2 0 (col ⟨n, by omega⟩ c)) := fun c => ld_scales 0 ⟨n, by omega⟩ (off8_eq _) _ x1 c
    have ht1 : ∀ c, View.ld x1 (Rect.unit (s := S2x8192) (k1_off10 ⟨n, hj⟩) S1x256.size (k1_off10_inb ⟨n, hj⟩)) (ix2 0 c)
        = x1 (ix2 1 (col ⟨n, by omega⟩ c)) := fun c => ld_scales 1 ⟨n, by omega⟩ (off10_eq _) _ x1 c
    have hs : ∀ c', Ideal.ofBits .f32 0x3F000000#32
        < ∑ x, (View.ld x2 (Rect.unit (s := S8192x1024) (k1_off1 i) S256x1024.size (k1_off1_inb i)) (ix2 r x)
          * View.ld x2 (Rect.unit (s := S8192x1024) (k1_off6 ⟨n, hj⟩) S256x1024.size (k1_off6_inb ⟨n, hj⟩)) (ix2 c' x) : EReal)
        ↔ share tg (col (i 0) r) (col ⟨n, by omega⟩ c') := fun c' => by
      rw [← hh]
      rw [Finset.sum_congr rfl fun x _ => by
        rw [ld_hot (i 0) (off1_eq i) _ x2 r x, ld_hot ⟨n, by omega⟩ (off6_eq ⟨n, hj⟩) _ x2 c' x]]
    exact ⟨next0_row (k := ⟨n, by omega⟩) rfl (fun d => ld_codes 0 (i 0) (off2_eq i) _ x0 r d) (ld_scales 0 (i 0) (off4_eq i) _ x1 r)
        hb0 ht0 hb1 ht1 hs _ _ _ _ ih0,
      next1_row (k := ⟨n, by omega⟩) rfl (fun d => ld_codes 1 (i 0) (off3_eq i) _ x0 r d) (ld_scales 1 (i 0) (off5_eq i) _ x1 r)
        hb0 ht0 hb1 ht1 hs _ _ _ _ ih1⟩

end

end Cert.KernelIdeal.Tile
-- ==== Proof.Out.lean ====
module

public import proofs.«01_k».proof.Proof.Loop
public import proofs.«01_k».proof.Proof.Gen.KernelIdeal.Frame
public import Idealize.ShloMosaic.Lib.Pipeline.ValueKit

@[expose] public section

set_option maxRecDepth 16384

noncomputable section

namespace Cert.KernelIdeal.Tile

open Idealize.ShloMosaic Idealize.ShloMosaic.TcCoe
open Cert.KernelIdeal Cert.KernelIdeal.Gen Cert.Supcon

variable (c : Dev nD) (i : grid1.Coords)
    (arg1 : Memref sig .tc .vmem S2x8192x128 .fp8e4m3) (harg1 : arg1.IsWhole)
    (arg2 : Memref sig .tc .vmem S2x8192 .f32) (harg2 : arg2.IsWhole)
    (arg3 : Memref sig .tc .vmem S8192x1024 .bf16) (harg3 : arg3.IsWhole)
    (arg4 : Memref sig .tc .vmem S2x256 .f32) (harg4 : arg4.IsWhole)
    (arg5 : Memref sig .tc .vmem S2x256 .f32) (harg5 : arg5.IsWhole)
    (arg6 : Memref sig .tc .vmem S2x256 .i32) (harg6 : arg6.IsWhole)
    (x0 : Vec Ideal S2x8192x128 .fp8e4m3) (x1 : Vec Ideal S2x8192 .f32) (x2 : Vec Ideal S8192x1024 .bf16)

/-- What a point's stores leave in the losses' window, one row per view. -/
theorem out3_canon :
    let y := carry c i arg1 harg1 arg2 harg2 arg3 harg3 arg4 harg4 arg5 harg5 arg6 harg6 x0 x1 x2 k1_t1_loop.trips
    out1_A_3 c i arg1 harg1 arg2 harg2 arg3 harg3 arg4 harg4 arg5 harg5 arg6 harg6 x0 x1 x2
      = View.canon ([⟨Rect.unit (s := S2x256) ![1, 0] S1x256.size inb_S2x256_S1x256_1_0, k1_pay42 y.2.2.2.2.1 y.2.2.2.2.2.1 y.2.2.2.2.2.2.1 y.2.2.2.2.2.2.2⟩,
          ⟨Rect.unit (s := S2x256) ![0, 0] S1x256.size inb_S2x256_S1x256_0_0, k1_pay38 (k1_pay37 y.1 y.2.1 y.2.2.1 y.2.2.2.1)⟩] : List (View.Piece (Elt Ideal) S2x256 .f32)) := by
  intro y
  unfold out1_A_3
  rw [View.read_writes_junk_eq_canon]
  unfold kernelRun1_A
  dsimp only
  sl_unfold_words
  simp only [View.readAt_eq_ld, harg1.read_unread, harg2.read_unread, harg3.read_unread]
  rfl

/-- What a point's stores leave in the log-sums' window, one row per view. -/
theorem out4_canon :
    let y := carry c i arg1 harg1 arg2 harg2 arg3 harg3 arg4 harg4 arg5 harg5 arg6 harg6 x0 x1 x2 k1_t1_loop.trips
    out1_A_4 c i arg1 harg1 arg2 harg2 arg3 harg3 arg4 harg4 arg5 harg5 arg6 harg6 x0 x1 x2
      = View.canon ([⟨Rect.unit (s := S2x256) ![1, 0] S1x256.size inb_S2x256_S1x256_1_0, k1_pay43 y.2.2.2.2.1 y.2.2.2.2.2.1⟩,
          ⟨Rect.unit (s := S2x256) ![0, 0] S1x256.size inb_S2x256_S1x256_0_0, k1_pay39 (k1_pay36 y.1 y.2.1)⟩] : List (View.Piece (Elt Ideal) S2x256 .f32)) := by
  intro y
  unfold out1_A_4
  rw [View.read_writes_junk_eq_canon]
  unfold kernelRun1_A
  dsimp only
  sl_unfold_words
  simp only [View.readAt_eq_ld, harg1.read_unread, harg2.read_unread, harg3.read_unread]
  rfl

/-- What a point's stores leave in the counts' window, one row per view. -/
theorem out5_canon :
    let y := carry c i arg1 harg1 arg2 harg2 arg3 harg3 arg4 harg4 arg5 harg5 arg6 harg6 x0 x1 x2 k1_t1_loop.trips
    out1_A_5 c i arg1 harg1 arg2 harg2 arg3 harg3 arg4 harg4 arg5 harg5 arg6 harg6 x0 x1 x2
      = View.canon ([⟨Rect.unit (s := S2x256) ![1, 0] S1x256.size inb_S2x256_S1x256_1_0, k1_pay1 (k1_pay44 y.2.2.2.2.2.2.2)⟩,
          ⟨Rect.unit (s := S2x256) ![0, 0] S1x256.size inb_S2x256_S1x256_0_0, k1_pay40 y.2.2.2.1⟩] : List (View.Piece (Elt Ideal) S2x256 .i32)) := by
  intro y
  unfold out1_A_5
  rw [View.read_writes_junk_eq_canon]
  unfold kernelRun1_A
  dsimp only
  sl_unfold_words
  simp only [View.readAt_eq_ld, harg1.read_unread, harg2.read_unread, harg3.read_unread]
  rfl

section

variable (tg : Fin 8192 → Fin 32 → BitVec 32)
    (hh : ∀ l q, Ideal.ofBits .f32 0x3F000000#32 < ∑ x, (x2 (ix2 l x) * x2 (ix2 q x) : EReal) ↔ share tg l q)
    (v : Fin 2) (r : Fin 256)

include hh

/-- A POINT'S LOSSES: the anchors' of the point's tile. -/
theorem out3_apply :
    out1_A_3 c i arg1 harg1 arg2 harg2 arg3 harg3 arg4 harg4 arg5 harg5 arg6 harg6 x0 x1 x2 (ix2 v r)
      = lossRow (fun v l d => x0 (ix3 v l d)) (fun v l => x1 (ix2 v l)) tg v (col (i 0) r) := by
  rw [out3_canon]
  have hr := carry_row c i arg1 harg1 arg2 harg2 arg3 harg3 arg4 harg4 arg5 harg5 arg6 harg6 x0 x1 x2 tg hh r k1_t1_loop.trips (le_of_eq trips_eq)
  generalize carry c i arg1 harg1 arg2 harg2 arg3 harg3 arg4 harg4 arg5 harg5 arg6 harg6 x0 x1 x2 k1_t1_loop.trips = y at hr ⊢
  rw [trips_eq] at hr
  obtain ⟨r0, r1⟩ := hr
  dsimp only
  canon_tiles x h
  · obtain ⟨a, b, rfl⟩ : ∃ (a : Fin 1) (b : Fin 256), x = ix2 a b := ⟨_, _, (ix2_eta x).symm⟩
    obtain rfl : r = b := Fin.ext (by simpa using h1)
    obtain rfl : a = 0 := Subsingleton.elim _ _
    obtain rfl : v = 1 := Fin.ext (by simpa using h0)
    rw [pay42_apply]
    exact r1.loss_eq
  · obtain ⟨a, b, rfl⟩ : ∃ (a : Fin 1) (b : Fin 256), x = ix2 a b := ⟨_, _, (ix2_eta x).symm⟩
    obtain rfl : r = b := Fin.ext (by simpa using h1)
    obtain rfl : a = 0 := Subsingleton.elim _ _
    obtain rfl : v = 0 := Fin.ext (by simpa using h0)
    rw [pay38_apply]
    exact r0.loss_eq

/-- A POINT'S LOG-SUMS: the anchors' of the point's tile. -/
theorem out4_apply :
    out1_A_4 c i arg1 harg1 arg2 harg2 arg3 harg3 arg4 harg4 arg5 harg5 arg6 harg6 x0 x1 x2 (ix2 v r)
      = lseRow (fun v l d => x0 (ix3 v l d)) (fun v l => x1 (ix2 v l)) v (col (i 0) r) := by
  rw [out4_canon]
  have hr := carry_row c i arg1 harg1 arg2 harg2 arg3 harg3 arg4 harg4 arg5 harg5 arg6 harg6 x0 x1 x2 tg hh r k1_t1_loop.trips (le_of_eq trips_eq)
  generalize carry c i arg1 harg1 arg2 harg2 arg3 harg3 arg4 harg4 arg5 harg5 arg6 harg6 x0 x1 x2 k1_t1_loop.trips = y at hr ⊢
  rw [trips_eq] at hr
  obtain ⟨r0, r1⟩ := hr
  dsimp only
  canon_tiles x h
  · obtain ⟨a, b, rfl⟩ : ∃ (a : Fin 1) (b : Fin 256), x = ix2 a b := ⟨_, _, (ix2_eta x).symm⟩
    obtain rfl : r = b := Fin.ext (by simpa using h1)
    obtain rfl : a = 0 := Subsingleton.elim _ _
    obtain rfl : v = 1 := Fin.ext (by simpa using h0)
    rw [pay43_apply]
    exact r1.lse_eq
  · obtain ⟨a, b, rfl⟩ : ∃ (a : Fin 1) (b : Fin 256), x = ix2 a b := ⟨_, _, (ix2_eta x).symm⟩
    obtain rfl : r = b := Fin.ext (by simpa using h1)
    obtain rfl : a = 0 := Subsingleton.elim _ _
    obtain rfl : v = 0 := Fin.ext (by simpa using h0)
    rw [pay39_apply]
    exact r0.lse_eq

/-- A POINT'S COUNTS: the anchors' of the point's tile. -/
theorem out5_apply :
    out1_A_5 c i arg1 harg1 arg2 harg2 arg3 harg3 arg4 harg4 arg5 harg5 arg6 harg6 x0 x1 x2 (ix2 v r)
      = countRow tg v (col (i 0) r) := by
  rw [out5_canon]
  have hr := carry_row c i arg1 harg1 arg2 harg2 arg3 harg3 arg4 harg4 arg5 harg5 arg6 harg6 x0 x1 x2 tg hh r k1_t1_loop.trips (le_of_eq trips_eq)
  generalize carry c i arg1 harg1 arg2 harg2 arg3 harg3 arg4 harg4 arg5 harg5 arg6 harg6 x0 x1 x2 k1_t1_loop.trips = y at hr ⊢
  rw [trips_eq] at hr
  obtain ⟨r0, r1⟩ := hr
  dsimp only
  canon_tiles x h
  · obtain ⟨a, b, rfl⟩ : ∃ (a : Fin 1) (b : Fin 256), x = ix2 a b := ⟨_, _, (ix2_eta x).symm⟩
    obtain rfl : r = b := Fin.ext (by simpa using h1)
    obtain rfl : a = 0 := Subsingleton.elim _ _
    obtain rfl : v = 1 := Fin.ext (by simpa using h0)
    rw [pay44_apply]
    exact r1.count_eq
  · obtain ⟨a, b, rfl⟩ : ∃ (a : Fin 1) (b : Fin 256), x = ix2 a b := ⟨_, _, (ix2_eta x).symm⟩
    obtain rfl : r = b := Fin.ext (by simpa using h1)
    obtain rfl : a = 0 := Subsingleton.elim _ _
    obtain rfl : v = 0 := Fin.ext (by simpa using h0)
    rw [pay40_apply]
    exact r0.count_eq

end

end Cert.KernelIdeal.Tile
-- ==== Proof.Hot.lean ====
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Tile

open Idealize.ShloMosaic Idealize.ShloMosaic.TcCoe
open Cert.KernelIdeal Cert.KernelIdeal.Gen Cert.Supcon

/-- The lane's number divided by 32, rounding down, as the kernel writes it. -/
theorem lane_div : ∀ c : Fin 128,
    Scalar.select
                (IntOp.andi
                  (IntOp.cmpi CmpIPredicate.ne
                    (IntOp.subi (BitVec.setWidth 32 (IntOp.cmpi CmpIPredicate.sgt (BitVec.ofNat 32 c.val) 0#32))
                      (BitVec.setWidth 32 (IntOp.cmpi CmpIPredicate.slt (BitVec.ofNat 32 c.val) 0#32)))
                    (Scalar.subi (Scalar.extui (Scalar.cmpi CmpIPredicate.sgt 32#32 0#32))
                      (Scalar.extui (Scalar.cmpi CmpIPredicate.slt 32#32 0#32))))
                  (IntOp.cmpi CmpIPredicate.ne (IntOp.remsi ArithUnit.vector (BitVec.ofNat 32 c.val) 32#32) 0#32))
                (IntOp.subi (IntOp.divsi ArithUnit.vector (BitVec.ofNat 32 c.val) 32#32) 1#32)
                (IntOp.divsi ArithUnit.vector (BitVec.ofNat 32 c.val) 32#32) = BitVec.ofNat 32 (c.val / 32) := by decide +kernel

/-- The lane's number modulo 32, as the kernel writes it. -/
theorem lane_mod : ∀ c : Fin 128,
          (Scalar.select
            (IntOp.andi
              (IntOp.xori
                (IntOp.cmpi CmpIPredicate.slt
                  (IntOp.remsi ArithUnit.vector (BitVec.ofNat 32 c.val)
                    (Scalar.select (Scalar.cmpi CmpIPredicate.eq 32#32 0#32) 1#32 32#32))
                  0#32)
                (Scalar.cmpi CmpIPredicate.slt (Scalar.select (Scalar.cmpi CmpIPredicate.eq 32#32 0#32) 1#32 32#32)
                  0#32))
              (IntOp.cmpi CmpIPredicate.ne
                (IntOp.remsi ArithUnit.vector (BitVec.ofNat 32 c.val)
                  (Scalar.select (Scalar.cmpi CmpIPredicate.eq 32#32 0#32) 1#32 32#32))
                0#32))
            (IntOp.addi
              (IntOp.remsi ArithUnit.vector (BitVec.ofNat 32 c.val)
                (Scalar.select (Scalar.cmpi CmpIPredicate.eq 32#32 0#32) 1#32 32#32))
              (Scalar.select (Scalar.cmpi CmpIPredicate.eq 32#32 0#32) 1#32 32#32))
            (IntOp.remsi ArithUnit.vector (BitVec.ofNat 32 c.val)
              (Scalar.select (Scalar.cmpi CmpIPredicate.eq 32#32 0#32) 1#32 32#32))) = BitVec.ofNat 32 (c.val % 32) := by decide +kernel

/-- The number the kernel makes of one bit of a word. -/
def bitOf (w : BitVec 32) (b : ℕ) : EReal :=
  FloatOps.sitofp (F := Ideal) .f32 (IntOp.andi (IntOp.shrui ArithUnit.vector w (BitVec.ofNat 32 b)) 1#32)

/-- The kernel's chain of selects takes the word whose number in its group of four is `q`. -/
theorem pick (q : ℕ) (hq : q < 4) (w0 w1 w2 w3 v : BitVec 32) (h0 : q = 0 → w0 = v) (h1 : q = 1 → w1 = v)
    (h2 : q = 2 → w2 = v) (h3 : q = 3 → w3 = v) :
    Scalar.select (IntOp.cmpi CmpIPredicate.eq (BitVec.ofNat 32 q) 3#32) w3
      (Scalar.select (IntOp.cmpi CmpIPredicate.eq (BitVec.ofNat 32 q) 2#32) w2
        (Scalar.select (IntOp.cmpi CmpIPredicate.eq (BitVec.ofNat 32 q) 1#32) w1
          (Scalar.select (IntOp.cmpi CmpIPredicate.eq (BitVec.ofNat 32 q) 0#32) w0 0#32))) = v := by
  interval_cases q
  · exact h0 rfl
  · exact h1 rfl
  · exact h2 rfl
  · exact h3 rfl

/-- What one point of `multi_hot` writes: lane `c` of a row holds bit `c % 32` of the row's word `c / 32`. -/
theorem out0_apply (x0 : Vec Ideal S512x32 .i32) (r : Fin 512) (c : Fin 1024) :
    out0_1 x0 (ix2 r c) = bitOf (x0 (ix2 r ⟨c.val / 32, by omega⟩)) (c.val % 32) := by
  unfold_out out0_1
  canon_tiles x h
  all_goals
    (obtain ⟨a, b, rfl⟩ : ∃ (a : Fin 512) (b : Fin 128), x = ix2 a b := ⟨_, _, (ix2_eta x).symm⟩
     obtain rfl : r = a := Fin.ext (by simpa using h0)
     simp only [ix2_1] at h1
     have hb : b.val < 128 := b.isLt
     have hc : c.val < 1024 := c.isLt
     have hm : c.val % 32 = b.val % 32 := by omega
     unfold_payloads
     pointwise [k0_pay82]
     simp only [lane_div, lane_mod]
     rw [pick (b.val / 32) (by omega) _ _ _ _ (x0 (ix2 r ⟨c.val / 32, by omega⟩)) ?_ ?_ ?_ ?_, hm]
     · rfl
     all_goals
       intro hq
       refine congrArg (fun w => x0 (ix2 r w)) (Fin.ext ?_)
       simp
       omega)

/-- A bit's number is one or zero. -/
theorem bitOf_eq (w : BitVec 32) (b : ℕ) (hb : b < 32) : bitOf w b = if w.getLsbD b then 1 else 0 := by
  have h : IntOp.andi (IntOp.shrui ArithUnit.vector w (BitVec.ofNat 32 b)) 1#32 = if w.getLsbD b then 1#32 else 0#32 := by
    have hb' : b % 4294967296 = b := by omega
    unfold IntOp.shrui IntOp.andi
    rw [if_pos (by simp; omega)]
    apply BitVec.eq_of_getLsbD_eq
    intro k hk
    rw [BitVec.getLsbD_and, BitVec.ushiftRight_eq', BitVec.getLsbD_ushiftRight, BitVec.toNat_ofNat, hb']
    rcases Nat.eq_zero_or_pos k with rfl | h
    · cases hw : w.getLsbD b <;> simp [hw]
    · cases hw : w.getLsbD b <;> simp [hw] <;> omega
  unfold bitOf
  rw [h]
  split
  · show ((((1#32 : BitVec 32).toInt : ℤ) : ℝ) : EReal) = 1
    norm_num
  · show ((((0#32 : BitVec 32).toInt : ℤ) : ℝ) : EReal) = 0
    norm_num

/-- TWO POSITIONS SHARE A TAG exactly when the product of their rows of bits exceeds one half. -/
theorem half_lt_iff (tg : Fin 8192 → Fin 32 → BitVec 32) (l q : Fin 8192) :
    Ideal.ofBits .f32 0x3F000000#32
        < ∑ x : Fin 1024, (bitOf (tg l ⟨x.val / 32, by omega⟩) (x.val % 32) * bitOf (tg q ⟨x.val / 32, by omega⟩) (x.val % 32) : EReal)
      ↔ share tg l q := by
  classical
  have h : ∀ x : Fin 1024,
      (bitOf (tg l ⟨x.val / 32, by omega⟩) (x.val % 32) * bitOf (tg q ⟨x.val / 32, by omega⟩) (x.val % 32) : EReal)
        = if (tg l ⟨x.val / 32, by omega⟩ &&& tg q ⟨x.val / 32, by omega⟩).getLsbD (x.val % 32) then 1 else 0 := fun x => by
    rw [bitOf_eq _ _ (by omega), bitOf_eq _ _ (by omega), BitVec.getLsbD_and]
    cases (tg l ⟨x.val / 32, by omega⟩).getLsbD (x.val % 32) <;>
      cases (tg q ⟨x.val / 32, by omega⟩).getLsbD (x.val % 32) <;> simp
  rw [Finset.sum_congr rfl fun x _ => h x, sum_ones, ofBits_half, EReal.coe_lt_coe_iff]
  constructor
  · intro hlt
    have hpos : 0 < (Finset.univ.filter fun x : Fin 1024 =>
        (tg l ⟨x.val / 32, by omega⟩ &&& tg q ⟨x.val / 32, by omega⟩).getLsbD (x.val % 32) = true).card := by
      rw [Nat.pos_iff_ne_zero]
      intro h0
      rw [h0] at hlt
      norm_num at hlt
    obtain ⟨x, hx⟩ := Finset.card_pos.mp hpos
    refine ⟨⟨x.val / 32, by omega⟩, fun h0 => ?_⟩
    have := (Finset.mem_filter.mp hx).2
    rw [h0] at this
    simp at this
  · rintro ⟨w, hw⟩
    obtain ⟨b, hb, hbit⟩ : ∃ b, b < 32 ∧ (tg l w &&& tg q w).getLsbD b = true := by
      by_contra hno
      push Not at hno
      exact hw (BitVec.eq_of_getLsbD_eq fun k hk => by simpa using hno k hk)
    have hpos : 0 < (Finset.univ.filter fun x : Fin 1024 =>
        (tg l ⟨x.val / 32, by omega⟩ &&& tg q ⟨x.val / 32, by omega⟩).getLsbD (x.val % 32) = true).card := by
      refine Finset.card_pos.mpr ⟨⟨32 * w.val + b, by omega⟩, Finset.mem_filter.mpr ⟨Finset.mem_univ _, ?_⟩⟩
      have e1 : (32 * w.val + b) / 32 = w.val := by omega
      have e2 : (32 * w.val + b) % 32 = b := by omega
      simp only [e1, e2]
      exact hbit
    have : (1 : ℝ) ≤ ((Finset.univ.filter fun x : Fin 1024 =>
        (tg l ⟨x.val / 32, by omega⟩ &&& tg q ⟨x.val / 32, by omega⟩).getLsbD (x.val % 32) = true).card : ℝ) := by
      exact_mod_cast hpos
    linarith

end Cert.KernelIdeal.Tile
-- ==== Proof.Arrays.lean ====
module

public import proofs.«01_k».proof.Proof.Out
public import proofs.«01_k».proof.Proof.Hot

@[expose] public section

set_option maxRecDepth 16384

noncomputable section

namespace Cert.KernelIdeal.Tile

open Idealize.ShloMosaic Idealize.ShloMosaic.TcCoe Idealize.SL.Sem
open Cert.KernelIdeal Cert.KernelIdeal.Gen Cert.Supcon

/-- The tag words' block of `multi_hot` at a point: the point's 512 positions. -/
theorem idx0_0 : ∀ t : Fin cfg0.N, win0_0.index t = ![(grid0.coords t 0).val, 0] := (by decide +kernel : ∀ t : Fin grid0.N, _)
/-- The bits' block of `multi_hot` at a point: the point's 512 positions. -/
theorem idx0_1 : ∀ t : Fin cfg0.N, win0_1.index t = ![(grid0.coords t 0).val, 0] := (by decide +kernel : ∀ t : Fin grid0.N, _)
/-- The codes' block of `supcon_general`: the whole array. -/
theorem idx1_0 : ∀ t : Fin cfg1.N, win1_0.index t = ![0, 0, 0] := (by decide +kernel : ∀ t : Fin grid1.N, _)
/-- The scales' block: the whole array. -/
theorem idx1_1 : ∀ t : Fin cfg1.N, win1_1.index t = ![0, 0] := (by decide +kernel : ∀ t : Fin grid1.N, _)
/-- The bits' block: the whole array. -/
theorem idx1_2 : ∀ t : Fin cfg1.N, win1_2.index t = ![0, 0] := (by decide +kernel : ∀ t : Fin grid1.N, _)
/-- The losses' block at a point: the point's 256 anchors of both views. -/
theorem idx1_3 : ∀ t : Fin cfg1.N, win1_3.index t = ![0, (grid1.coords t 0).val] := (by decide +kernel : ∀ t : Fin grid1.N, _)
/-- The log-sums' block at a point: the point's 256 anchors of both views. -/
theorem idx1_4 : ∀ t : Fin cfg1.N, win1_4.index t = ![0, (grid1.coords t 0).val] := (by decide +kernel : ∀ t : Fin grid1.N, _)
/-- The counts' block at a point: the point's 256 anchors of both views. -/
theorem idx1_5 : ∀ t : Fin cfg1.N, win1_5.index t = ![0, (grid1.coords t 0).val] := (by decide +kernel : ∀ t : Fin grid1.N, _)

/-- Every anchor's loss, as an array. -/
def lossArr (x0 : Vec Ideal S2x8192x128 .fp8e4m3) (x1 : Vec Ideal S2x8192 .f32) (x2 : Vec Ideal S8192x32 .i32) : Vec Ideal S2x8192 .f32 :=
  fun i => lossRow (fun v l d => x0 (ix3 v l d)) (fun v l => x1 (ix2 v l)) (fun l w => x2 (ix2 l w)) (i 0) (i 1)

/-- Every anchor's log-sum, as an array. -/
def lseArr (x0 : Vec Ideal S2x8192x128 .fp8e4m3) (x1 : Vec Ideal S2x8192 .f32) : Vec Ideal S2x8192 .f32 :=
  fun i => lseRow (fun v l d => x0 (ix3 v l d)) (fun v l => x1 (ix2 v l)) (i 0) (i 1)

/-- Every anchor's number of positives, as an array. -/
def countArr (x2 : Vec Ideal S8192x32 .i32) : Vec Ideal S2x8192 .i32 :=
  fun i => countRow (fun l w => x2 (ix2 l w)) (i 0) (i 1)

/-- The array of bits: lane `x` of a position holds bit `x % 32` of its tag word `x / 32`. -/
def hotArr (tg : Vec Ideal S8192x32 .i32) : Vec Ideal S8192x1024 .bf16 := fun i =>
  bitOf (tg (ix2 (i 0) ⟨(i 1).val / 32, by have h : (i 1).val < 1024 := (i 1).isLt; omega⟩)) ((i 1).val % 32)

variable (m : (ℓ : Loc nD τ sig) → Buf (Elt Ideal) ℓ) (ρ : Dev nD → PrngReg) (c : Dev nD)

/-- WHAT `multi_hot` LEAVES: the array of bits of the tag words. -/
theorem hot_final : (dat0 (V0 m ρ) c).arrAt 1 cfg0.N = hotArr (m ((c.tc : Thread nD τ).loc main_arg2)) := by
  refine (dat0 (V0 m ρ) c).arrAt_eq_of_covers 1 _ (by decide +kernel) fun t hf y => ?_
  blk_simp
  rw [after0_1]
  obtain ⟨a, b, rfl⟩ : ∃ (a : Fin 512) (b : Fin 1024), y = ix2 a b := ⟨_, _, (ix2_eta y).symm⟩
  rw [out0_apply]
  blk_simp [iblk0]
  have e : (win0_0.blk t).view.emb (ix2 a ⟨b.val / 32, by omega⟩)
      = ix2 ((win0_1.blk t).view.emb (ix2 a b) 0)
        ⟨((win0_1.blk t).view.emb (ix2 a b) 1).val / 32, by
          have h : ((win0_1.blk t).view.emb (ix2 a b) 1).val < 1024 := ((win0_1.blk t).view.emb (ix2 a b) 1).isLt
          omega⟩ := by
    blk_ext [idx0_0, idx0_1]
  have e1 : ((win0_1.blk t).view.emb (ix2 a b) 1).val % 32 = b.val % 32 := by
    blk_simp [idx0_1]
  unfold hotArr
  rw [e, e1]
  rfl

/-- At every point of `supcon_general` the codes' block is the whole array of codes. -/
theorem codes_block (t : Fin cfg1.N) : iblk1 (V1 m ρ) c 0 t = m ((c.tc : Thread nD τ).loc main_arg0) := by
  funext y
  blk_simp [iblk1]
  have e : (win1_0.blk t).view.emb y = y := by blk_ext [idx1_0]
  rw [e]
  exact congrFun (W1_args m ρ c main_arg0 (by decide)) y

/-- The scales' block is the whole array of scales. -/
theorem scales_block (t : Fin cfg1.N) : iblk1 (V1 m ρ) c 1 t = m ((c.tc : Thread nD τ).loc main_arg1) := by
  funext y
  blk_simp [iblk1]
  have e : (win1_1.blk t).view.emb y = y := by blk_ext [idx1_1]
  rw [e]
  exact congrFun (W1_args m ρ c main_arg1 (by decide)) y

/-- The bits' block is the whole array that `multi_hot` left. -/
theorem hot_block (t : Fin cfg1.N) : iblk1 (V1 m ρ) c 2 t = hotArr (m ((c.tc : Thread nD τ).loc main_arg2)) := by
  funext y
  blk_simp [iblk1]
  have e : (win1_2.blk t).view.emb y = y := by blk_ext [idx1_2]
  rw [e]
  exact congrFun ((W1_arr m ρ c 1).trans (hot_final m ρ c)) y

/-- Two rows of the array of bits multiply to more than one half exactly when the positions share a tag. -/
theorem hot_share (tg : Vec Ideal S8192x32 .i32) (l q : Fin 8192) :
    Ideal.ofBits .f32 0x3F000000#32 < ∑ x, (hotArr tg (ix2 l x) * hotArr tg (ix2 q x) : EReal)
      ↔ share (fun l w => tg (ix2 l w)) l q :=
  half_lt_iff (fun l w => tg (ix2 l w)) l q

/-- WHAT THE KERNEL LEAVES of the losses: every anchor's. -/
theorem loss_final : (dat1 (V1 m ρ) c).arrAt 3 cfg1.N = lossArr (m ((c.tc : Thread nD τ).loc main_arg0)) (m ((c.tc : Thread nD τ).loc main_arg1)) (m ((c.tc : Thread nD τ).loc main_arg2)) := by
  refine (dat1 (V1 m ρ) c).arrAt_eq_of_covers 3 _ (by decide +kernel) fun t hf y => ?_
  blk_simp
  rw [after1_3]
  unfold outsAt1
  dsimp only
  rw [codes_block, scales_block, hot_block]
  obtain ⟨v, r, rfl⟩ : ∃ (v : Fin 2) (r : Fin 256), y = ix2 v r := ⟨_, _, (ix2_eta y).symm⟩
  refine (out3_apply _ _ _ _ _ _ _ _ _ _ _ _ _ _ _ _ _ _ (hot_share _) v r).trans ?_
  have e0 : (win1_3.blk t).view.emb (ix2 v r) 0 = v := Fin.ext (by blk_simp [idx1_3])
  have e1 : (win1_3.blk t).view.emb (ix2 v r) 1 = col (grid1.coords t 0) r :=
    Fin.ext (by blk_simp [idx1_3]; simp [col]; omega)
  unfold lossArr
  rw [e0, e1]

/-- WHAT THE KERNEL LEAVES of the log-sums: every anchor's. -/
theorem lse_final : (dat1 (V1 m ρ) c).arrAt 4 cfg1.N = lseArr (m ((c.tc : Thread nD τ).loc main_arg0)) (m ((c.tc : Thread nD τ).loc main_arg1)) := by
  refine (dat1 (V1 m ρ) c).arrAt_eq_of_covers 4 _ (by decide +kernel) fun t hf y => ?_
  blk_simp
  rw [after1_4]
  unfold outsAt1
  dsimp only
  rw [codes_block, scales_block, hot_block]
  obtain ⟨v, r, rfl⟩ : ∃ (v : Fin 2) (r : Fin 256), y = ix2 v r := ⟨_, _, (ix2_eta y).symm⟩
  refine (out4_apply _ _ _ _ _ _ _ _ _ _ _ _ _ _ _ _ _ _ (hot_share _) v r).trans ?_
  have e0 : (win1_4.blk t).view.emb (ix2 v r) 0 = v := Fin.ext (by blk_simp [idx1_4])
  have e1 : (win1_4.blk t).view.emb (ix2 v r) 1 = col (grid1.coords t 0) r :=
    Fin.ext (by blk_simp [idx1_4]; simp [col]; omega)
  unfold lseArr
  rw [e0, e1]

/-- WHAT THE KERNEL LEAVES of the counts: every anchor's. -/
theorem count_final : (dat1 (V1 m ρ) c).arrAt 5 cfg1.N = countArr (m ((c.tc : Thread nD τ).loc main_arg2)) := by
  refine (dat1 (V1 m ρ) c).arrAt_eq_of_covers 5 _ (by decide +kernel) fun t hf y => ?_
  blk_simp
  rw [after1_5]
  unfold outsAt1
  dsimp only
  rw [codes_block, scales_block, hot_block]
  obtain ⟨v, r, rfl⟩ : ∃ (v : Fin 2) (r : Fin 256), y = ix2 v r := ⟨_, _, (ix2_eta y).symm⟩
  refine (out5_apply _ _ _ _ _ _ _ _ _ _ _ _ _ _ _ _ _ _ (hot_share _) v r).trans ?_
  have e0 : (win1_5.blk t).view.emb (ix2 v r) 0 = v := Fin.ext (by blk_simp [idx1_5])
  have e1 : (win1_5.blk t).view.emb (ix2 v r) 1 = col (grid1.coords t 0) r :=
    Fin.ext (by blk_simp [idx1_5]; simp [col]; omega)
  unfold countArr
  rw [e0, e1]

end Cert.KernelIdeal.Tile
-- ==== Proof.KRun.lean ====
module

public import proofs.«01_k».proof.Proof.Arrays

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Supcon

variable (m : (ℓ : Loc nD τ sig) → Buf (Elt Ideal) ℓ) (ρ : Dev nD → PrngReg)

-- `θ_run_regions_kit_sems`'s implicit arguments are found by unifying its conclusion with this one, which takes unfolding
-- plain definitions in a metavariable's type
set_option backward.isDefEq.respectTransparency.types false in
/-- THE KERNEL'S RUN: it terminates, the three results hold every anchor's loss, log-sum and count, and the arguments are
    as launched: the launch over the two pipelines as the frame's, the last contents read at the results too. -/
theorem run : θ_run defs (onTc (τ := τ) (main (F := Ideal))) ⟨m, fun _ => 0, ρ⟩ (fun r => ∀ c : Dev nD,
      r.2.mem ((c.tc : Thread nD τ).loc main_v1_0) = lossArr (m ((c.tc : Thread nD τ).loc main_arg0)) (m ((c.tc : Thread nD τ).loc main_arg1)) (m ((c.tc : Thread nD τ).loc main_arg2))
      ∧ r.2.mem ((c.tc : Thread nD τ).loc main_v1_1) = lseArr (m ((c.tc : Thread nD τ).loc main_arg0)) (m ((c.tc : Thread nD τ).loc main_arg1))
      ∧ r.2.mem ((c.tc : Thread nD τ).loc main_v1_2) = countArr (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1_0 (by decide))).trans ((W2_arr m ρ c 3).trans (loss_final m ρ c)),
       (h c _ (mem_uc main_v1_1 (by decide))).trans ((W2_arr m ρ c 4).trans (lse_final m ρ c)),
       (h c _ (mem_uc main_v1_2 (by decide))).trans ((W2_arr m ρ c 5).trans (count_final m ρ c)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Tile
-- ==== Proof.RefValue.lean ====
/-
  What the reference computes, index by index: its three result arrays are the plain functions of Spec.lean.
-/
module

public import proofs.«01_k».proof.Proof.Spec
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Rows

open Idealize.ShloMosaic Idealize.ShloMosaic.TcCoe
open Cert.ReferenceIdeal Cert.ReferenceIdeal.Gen Cert.ReferenceIdeal.Value Cert.Supcon

/-- Row `n` of the 16384 embeddings is position `n % 8192` of view `n / 8192`. -/
def pair : Fin 16384 ≃ Fin 2 × Fin 8192 where
  toFun n := (⟨n.val / 8192, by omega⟩, ⟨n.val % 8192, by omega⟩)
  invFun q := ⟨q.1.val * 8192 + q.2.val, by omega⟩
  left_inv n := Fin.ext (by dsimp only; omega)
  right_inv q := Prod.ext (Fin.ext (by dsimp only; omega)) (Fin.ext (by dsimp only; omega))

/-- The codes as a function of view, position and feature. -/
abbrev cdOf (x0 : Vec Ideal S2x8192x128 .fp8e4m3) : Fin 2 → Fin 8192 → Fin 128 → EReal := fun v l d => x0 (ix3 v l d)
/-- The scales as a function of view and position. -/
abbrev scOf (x1 : Vec Ideal S2x8192 .f32) : Fin 2 → Fin 8192 → EReal := fun v l => x1 (ix2 v l)
/-- The tag words as a function of position and word. -/
abbrev tgOf (x2 : Vec Ideal S8192x32 .i32) : Fin 8192 → Fin 32 → BitVec 32 := fun l w => x2 (ix2 l w)

variable (x0 : Vec Ideal S2x8192x128 .fp8e4m3) (x1 : Vec Ideal S2x8192 .f32) (x2 : Vec Ideal S8192x32 .i32)

/-- An entry of the logit matrix. -/
theorem logit_apply (n n' : Fin 16384) :
    k0_pay6 x0 x1 (ix2 n n') = logit (cdOf x0) (scOf x1) (pair n).1 (pair n).2 (pair n') := by
  pointwise [k0_pay6]
  rfl

/-- The diagonal's mask: the two rows are the same embedding. -/
theorem self_apply (n n' : Fin 16384) :
    k0_pay7 (ix2 n n') = 1#1 ↔ self (pair n).1 (pair n).2 (pair n') := by
  pointwise [k0_pay7]
  have hp : self (pair n).1 (pair n).2 (pair n') ↔ pair n = pair n' := Prod.ext_iff.symm
  rw [cmpi_eq_iff, ofNat_inj (by omega) (by omega), hp, pair.apply_eq_iff_eq, Fin.ext_iff]

/-- A row of logits with the diagonal masked. -/
theorem masked_apply (n n' : Fin 16384) :
    Scalar.select (k0_pay7 (ix2 n n')) (Ideal.ofBits FTy.f32 0xFF800000#32) (k0_pay6 x0 x1 (ix2 n n'))
      = masked (cdOf x0) (scOf x1) (pair n).1 (pair n).2 (pair n') := by
  rw [select_iff (self_apply n n'), logit_apply, ofBits_neg_inf]
  rfl

/-- A row's log-sum-exp. -/
theorem lse_apply (n : Fin 16384) :
    k0_pay8 x0 x1 (ix1 n) = lseRow (cdOf x0) (scOf x1) (pair n).1 (pair n).2 := by
  pointwise [k0_pay8]
  simp only [masked_apply]
  rw [ofBits_neg_inf, log_sum_exp (fun n' => masked (cdOf x0) (scOf x1) (pair n).1 (pair n).2 (pair n'))]
  exact lse_equiv pair (masked (cdOf x0) (scOf x1) (pair n).1 (pair n).2)

/-- The tag words of row `a` of the doubled list. -/
theorem tags_apply (a : Fin 16384) (w : Fin 32) (h1 : a.val < 8192 → a.val < 8192) (h2 : ¬a.val < 8192 → a.val - 8192 < 8192) :
    (if h : a.val < 8192 then x2 (ix2 ⟨a.val, h1 h⟩ w) else x2 (ix2 ⟨a.val - 8192, h2 h⟩ w)) = tgOf x2 (pair a).2 w := by
  split
  · have : (pair a).2 = ⟨a.val, by assumption⟩ := Fin.ext (Nat.mod_eq_of_lt (by assumption))
    rw [this]
  · have : (pair a).2 = ⟨a.val - 8192, by omega⟩ := Fin.ext (by show a.val % 8192 = a.val - 8192; omega)
    rw [this]

/-- Two rows share a tag. -/
theorem share_apply (n n' : Fin 16384) :
    0 < k0_pay9 (F := Ideal) x2 (ix2 n n') ↔ share (tgOf x2) (pair n).2 (pair n').2 := by
  pointwise [k0_pay9]
  rw [ofBits_neg_inf]
  simp only [select_iff (cmpi_ne_iff _ _)]
  rw [zero_lt_fold_iff]
  unfold share
  refine exists_congr fun w => ?_
  rw [tags_apply x2 n w, tags_apply x2 n' w]
  exact Iff.rfl

/-- A positive pair's bit, from the tag test and the diagonal. -/
theorem pay1_apply (x : IVec S16384x16384 1) (y : FVec Ideal S16384x16384 .f32) (z : Ideal .f32) (n n' : Fin 16384) :
    k0_pay1 x y z (ix2 n n') = 1#1 ↔ z < y (ix2 n n') ∧ ¬x (ix2 n n') = 1#1 := by
  pointwise [k0_pay1]
  rw [andi_not_iff, ofBool_iff]

/-- A row's number of set bits. -/
theorem pay2_apply (x : IVec S16384x16384 1) (y : FVec Ideal S16384x16384 .f32) (z : Ideal .f32) (n : Fin 16384) :
    k0_pay2 x y z (ix1 n) = BitVec.ofNat 32 (Finset.univ.filter (fun n' : Fin 16384 => k0_pay1 x y z (ix2 n n') = 1#1)).card := by
  rw [← fold_bits]
  pointwise [k0_pay2]

/-- A row's loss, from its masks, its logits and its log-sum-exp. -/
theorem pay3_apply (L : FVec Ideal S16384x16384 .f32) (x : IVec S16384x16384 1) (w : FVec Ideal S16384 .f32) (y : FVec Ideal S16384x16384 .f32)
    (z : Ideal .f32) (v : Fin 2) (l : Fin 8192) (n : Fin 16384) (hn : pair.symm (v, l) = n) :
    k0_pay3 L x w y z (ix2 v l)
      = Scalar.select (IntOp.cmpi .sgt (k0_pay2 x y z (ix1 n)) 0#32)
          (Ideal.ofBits .f32 3216431982#32 * (Ideal.div (∑ n', Scalar.select (k0_pay1 x y z (ix2 n n')) (L (ix2 n n')) 0)
            (FloatOps.sitofp (F := Ideal) .f32 (IntOp.maxsi (k0_pay2 x y z (ix1 n)) 1#32)) - w (ix1 n))) 0 := by
  subst hn
  pointwise [k0_pay3]
  rfl

/-- The log-sum-exps by view and position. -/
theorem pay4_apply (w : FVec Ideal S16384 .f32) (v : Fin 2) (l : Fin 8192) (n : Fin 16384) (hn : pair.symm (v, l) = n) :
    k0_pay4 w (ix2 v l) = w (ix1 n) := by
  subst hn
  pointwise [k0_pay4]
  rfl

/-- The counts by view and position. -/
theorem pay5_apply (x : IVec S16384x16384 1) (y : FVec Ideal S16384x16384 .f32) (z : Ideal .f32) (v : Fin 2) (l : Fin 8192)
    (n : Fin 16384) (hn : pair.symm (v, l) = n) : k0_pay5 x y z (ix2 v l) = k0_pay2 x y z (ix1 n) := by
  subst hn
  pointwise [k0_pay5]
  rfl

/-- Two rows are a positive pair. -/
theorem pos_apply (n n' : Fin 16384) :
    k0_pay1 k0_pay7 (k0_pay9 (F := Ideal) x2) (0 : EReal) (ix2 n n') = 1#1
      ↔ pos (tgOf x2) (pair n).1 (pair n).2 (pair n') :=
  (pay1_apply _ _ _ n n').trans (and_congr (share_apply x2 n n') (not_congr (self_apply n n')))

/-- A row's number of positives. -/
theorem count_apply (n : Fin 16384) :
    k0_pay2 k0_pay7 (k0_pay9 (F := Ideal) x2) (0 : EReal) (ix1 n) = countRow (tgOf x2) (pair n).1 (pair n).2 := by
  refine (pay2_apply _ _ _ n).trans (congrArg (BitVec.ofNat 32) ?_)
  refine Finset.card_equiv pair fun n' => ?_
  rw [Finset.mem_filter, Finset.mem_filter]
  exact and_congr ⟨fun _ => Finset.mem_univ _, fun _ => Finset.mem_univ _⟩ (pos_apply x2 n n')

/-- The zero offset of a rank-2 array. -/
theorem zero2 : (![0, 0] : Fin 2 → ℕ) = fun _ => 0 := by decide
/-- The zero offset of a rank-3 array. -/
theorem zero3 : (![0, 0, 0] : Fin 3 → ℕ) = fun _ => 0 := by decide

/-- THE REFERENCE'S LOG-SUM-EXPS. -/
theorem lse_eq (v : Fin 2) (l : Fin 8192) : G4 x0 x1 x2 (ix2 v l) = lseRow (cdOf x0) (scOf x1) v l := by
  have h : G4 x0 x1 x2 = k0_pay4 (k0_pay8 x0 x1) := by
    unfold G4 k0_pay11; rw [View.ld_unit_zero (h := zero3), View.ld_unit_zero (h := zero2)]
  rw [h, pay4_apply _ v l _ rfl, lse_apply, pair.apply_symm_apply]

/-- THE REFERENCE'S COUNTS. -/
theorem count_eq (v : Fin 2) (l : Fin 8192) : G5 x0 x1 x2 (ix2 v l) = countRow (tgOf x2) v l := by
  have h : G5 x0 x1 x2 = k0_pay5 k0_pay7 (k0_pay9 (F := Ideal) x2) (Ideal.ofBits .f32 0x00000000#32) := by
    unfold G5 k0_pay10 k0_pay12; rw [View.ld_unit_zero (h := zero2)]; rfl
  rw [h, pay5_apply _ _ _ v l _ rfl, Ideal.ofBits_zero, count_apply, pair.apply_symm_apply]

/-- THE REFERENCE'S LOSSES. -/
theorem loss_eq (v : Fin 2) (l : Fin 8192) : G3 x0 x1 x2 (ix2 v l) = lossRow (cdOf x0) (scOf x1) (tgOf x2) v l := by
  have h : G3 x0 x1 x2 = k0_pay3 (k0_pay6 x0 x1) k0_pay7 (k0_pay8 x0 x1) (k0_pay9 (F := Ideal) x2) (Ideal.ofBits .f32 0x00000000#32) := by
    unfold G3 k0_pay10 k0_pay11 k0_pay12; rw [View.ld_unit_zero (h := zero3), View.ld_unit_zero (h := zero2), View.ld_unit_zero (h := zero2)]; rfl
  rw [h, pay3_apply _ _ _ _ _ v l _ rfl, Ideal.ofBits_zero, count_apply, lse_apply, pair.apply_symm_apply]
  have hp : ∀ n', Scalar.select (k0_pay1 k0_pay7 (k0_pay9 (F := Ideal) x2) (0 : EReal) (ix2 (pair.symm (v, l)) n'))
      (k0_pay6 x0 x1 (ix2 (pair.symm (v, l)) n')) 0
        = (fun q => if pos (tgOf x2) v l q then logit (cdOf x0) (scOf x1) v l q else 0) (pair n') := fun n' => by
    rw [select_iff (pos_apply x2 _ n'), logit_apply, pair.apply_symm_apply]
  rw [Finset.sum_congr rfl fun n' _ => hp n', pair.sum_comp (fun q => if pos (tgOf x2) v l q then logit (cdOf x0) (scOf x1) v l q else 0)]
  dsimp only
  unfold countRow lossRow posSum
  rw [cmpi_sgt_zero (cnt_lt _ v l), sitofp_max_one (cnt_lt _ v l), select_iff (ofBool_iff _)]

end Cert.ReferenceIdeal.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KRun
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference's losses are the kernel's. -/
theorem loss_agree (x0 : Vec Ideal Cert.KernelIdeal.S2x8192x128 .fp8e4m3) (x1 : Vec Ideal Cert.KernelIdeal.S2x8192 .f32)
    (x2 : Vec Ideal Cert.KernelIdeal.S8192x32 .i32) :
    Cert.ReferenceIdeal.Value.G3 x0 x1 x2 = Cert.KernelIdeal.Tile.lossArr x0 x1 x2 := by
  funext i
  obtain ⟨v, l, rfl⟩ : ∃ (v : Fin 2) (l : Fin 8192), i = ix2 v l := ⟨_, _, (ix2_eta i).symm⟩
  exact Cert.ReferenceIdeal.Rows.loss_eq x0 x1 x2 v l

/-- The reference's log-sums are the kernel's. -/
theorem lse_agree (x0 : Vec Ideal Cert.KernelIdeal.S2x8192x128 .fp8e4m3) (x1 : Vec Ideal Cert.KernelIdeal.S2x8192 .f32)
    (x2 : Vec Ideal Cert.KernelIdeal.S8192x32 .i32) :
    Cert.ReferenceIdeal.Value.G4 x0 x1 x2 = Cert.KernelIdeal.Tile.lseArr x0 x1 := by
  funext i
  obtain ⟨v, l, rfl⟩ : ∃ (v : Fin 2) (l : Fin 8192), i = ix2 v l := ⟨_, _, (ix2_eta i).symm⟩
  exact Cert.ReferenceIdeal.Rows.lse_eq x0 x1 x2 v l

/-- The reference's counts are the kernel's. -/
theorem count_agree (x0 : Vec Ideal Cert.KernelIdeal.S2x8192x128 .fp8e4m3) (x1 : Vec Ideal Cert.KernelIdeal.S2x8192 .f32)
    (x2 : Vec Ideal Cert.KernelIdeal.S8192x32 .i32) :
    Cert.ReferenceIdeal.Value.G5 x0 x1 x2 = Cert.KernelIdeal.Tile.countArr x2 := by
  funext i
  obtain ⟨v, l, rfl⟩ : ∃ (v : Fin 2) (l : Fin 8192), i = ix2 v l := ⟨_, _, (ix2_eta i).symm⟩
  exact Cert.ReferenceIdeal.Rows.count_eq x0 x1 x2 v l

/-- THE EQUATION: kernel and reference, from the same arguments, end with the same three results. -/
theorem algebraic : @Cert.algebraic_KernelIdeal_ReferenceIdeal Cert.KernelIdeal.Gen.facts Cert.ReferenceIdeal.Gen.facts := by
  intro m ρ m' ρ' _ hag
  refine ⟨_, _, _, Cert.KernelIdeal.Tile.run m ρ, ?_⟩
  refine (θ_run Cert.ReferenceIdeal.defs _ _).mono (fun r h c => ?_) (Cert.ReferenceIdeal.Value.run m' ρ')
  obtain ⟨h0, h1, h2, k0, k1, k2⟩ := h c
  obtain ⟨a0, a1, a2⟩ := hag c
  rw [a0, a1, a2] at h0 h1 h2
  exact ⟨h0.trans (loss_agree _ _ _), h1.trans (lse_agree _ _ _), h2.trans (count_agree _ _ _), k0, k1, k2⟩

/-- Everything the certificate claims: three frames, the kept text, and the equation. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
